-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x8192x1152 : Shape := ⟨3, ![3, 8192, 1152]⟩
abbrev S3328x1152 : Shape := ⟨2, ![3328, 1152]⟩
abbrev S3328 : Shape := ⟨1, ![3328]⟩
abbrev S3x8192x3328 : Shape := ⟨3, ![3, 8192, 3328]⟩
abbrev S24576x1152 : Shape := ⟨2, ![24576, 1152]⟩
abbrev S1x3328 : Shape := ⟨2, ![1, 3328]⟩
abbrev S24576x3328 : Shape := ⟨2, ![24576, 3328]⟩
abbrev S24576x1 : Shape := ⟨2, ![24576, 1]⟩
abbrev S512x1152 : Shape := ⟨2, ![512, 1152]⟩
abbrev S512x3328 : Shape := ⟨2, ![512, 3328]⟩
abbrev S512x1 : Shape := ⟨2, ![512, 1]⟩
abbrev S512 : Shape := ⟨1, ![512]⟩
abbrev S512x256 : Shape := ⟨2, ![512, 256]⟩
abbrev S256x1152 : Shape := ⟨2, ![256, 1152]⟩
abbrev S1x256 : Shape := ⟨2, ![1, 256]⟩

abbrev nBuf : Space → Nat
  | .hbm => 10
  | .vmem => 12
  | .smem => 0
  | _ => 0

abbrev bufTy : (tb : Table) → Fin (tcTables nBuf tb) → BufTy
  | .hbm, ⟨0, _⟩ => ⟨S3x8192x1152, .bf16⟩
  | .hbm, ⟨1, _⟩ => ⟨S3328x1152, .fp8e4m3⟩
  | .hbm, ⟨2, _⟩ => ⟨S3328, .f32⟩
  | .hbm, ⟨3, _⟩ => ⟨S3x8192x3328, .bf16⟩
  | .hbm, ⟨4, _⟩ => ⟨S24576x1152, .bf16⟩
  | .hbm, ⟨5, _⟩ => ⟨S1x3328, .f32⟩
  | .hbm, ⟨6, _⟩ => ⟨S24576x3328, .bf16⟩
  | .hbm, ⟨7, _⟩ => ⟨S24576x3328, .bf16⟩
  | .hbm, ⟨8, _⟩ => ⟨S24576x1152, .fp8e4m3⟩
  | .hbm, ⟨9, _⟩ => ⟨S24576x1, .f32⟩
  | .local _ .vmem, ⟨0, _⟩ => ⟨S512x1152, .bf16⟩
  | .local _ .vmem, ⟨1, _⟩ => ⟨S512x1152, .bf16⟩
  | .local _ .vmem, ⟨2, _⟩ => ⟨S3328x1152, .fp8e4m3⟩
  | .local _ .vmem, ⟨3, _⟩ => ⟨S1x3328, .f32⟩
  | .local _ .vmem, ⟨4, _⟩ => ⟨S512x3328, .bf16⟩
  | .local _ .vmem, ⟨5, _⟩ => ⟨S512x3328, .bf16⟩
  | .local _ .vmem, ⟨6, _⟩ => ⟨S512x3328, .bf16⟩
  | .local _ .vmem, ⟨7, _⟩ => ⟨S512x3328, .bf16⟩
  | .local _ .vmem, ⟨8, _⟩ => ⟨S512x1152, .fp8e4m3⟩
  | .local _ .vmem, ⟨9, _⟩ => ⟨S512x1152, .fp8e4m3⟩
  | .local _ .vmem, ⟨10, _⟩ => ⟨S512x1, .f32⟩
  | .local _ .vmem, ⟨11, _⟩ => ⟨S512x1, .f32⟩
  | _, _ => ⟨S3x8192x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3328x1152 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3328 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3328 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3328 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1152 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S3x8192x1152 : Shape := ⟨3, ![3, 8192, 1152]⟩
abbrev S3328x1152 : Shape := ⟨2, ![3328, 1152]⟩
abbrev S3328 : Shape := ⟨1, ![3328]⟩
abbrev S3x8192x3328 : Shape := ⟨3, ![3, 8192, 3328]⟩
abbrev S24576x1152 : Shape := ⟨2, ![24576, 1152]⟩
abbrev S1x3328 : Shape := ⟨2, ![1, 3328]⟩
abbrev S24576x3328 : Shape := ⟨2, ![24576, 3328]⟩
abbrev S24576x1 : Shape := ⟨2, ![24576, 1]⟩
abbrev S24576 : Shape := ⟨1, ![24576]⟩
abbrev S24576x254 : Shape := ⟨2, ![24576, 254]⟩

abbrev nBuf : Space → Nat
  | .hbm => 10
  | .vmem => 7
  | .smem => 0
  | _ => 0

abbrev bufTy : (tb : Table) → Fin (tcTables nBuf tb) → BufTy
  | .hbm, ⟨0, _⟩ => ⟨S3x8192x1152, .bf16⟩
  | .hbm, ⟨1, _⟩ => ⟨S3328x1152, .fp8e4m3⟩
  | .hbm, ⟨2, _⟩ => ⟨S3328, .f32⟩
  | .hbm, ⟨3, _⟩ => ⟨S3x8192x3328, .bf16⟩
  | .hbm, ⟨4, _⟩ => ⟨S24576x1152, .bf16⟩
  | .hbm, ⟨5, _⟩ => ⟨S1x3328, .f32⟩
  | .hbm, ⟨6, _⟩ => ⟨S24576x3328, .bf16⟩
  | .hbm, ⟨7, _⟩ => ⟨S24576x3328, .bf16⟩
  | .hbm, ⟨8, _⟩ => ⟨S24576x1152, .fp8e4m3⟩
  | .hbm, ⟨9, _⟩ => ⟨S24576x1, .f32⟩
  | .local _ .vmem, ⟨0, _⟩ => ⟨S24576x1152, .bf16⟩
  | .local _ .vmem, ⟨1, _⟩ => ⟨S3328x1152, .fp8e4m3⟩
  | .local _ .vmem, ⟨2, _⟩ => ⟨S1x3328, .f32⟩
  | .local _ .vmem, ⟨3, _⟩ => ⟨S24576x3328, .bf16⟩
  | .local _ .vmem, ⟨4, _⟩ => ⟨S24576x3328, .bf16⟩
  | .local _ .vmem, ⟨5, _⟩ => ⟨S24576x1152, .fp8e4m3⟩
  | .local _ .vmem, ⟨6, _⟩ => ⟨S24576x1, .f32⟩
  | _, _ => ⟨S3x8192x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S24576x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3328x1152 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3328 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x3328 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x3328 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x1152 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Exponent.lean ====
/-
  The exponent of a row's scale, over the extended reals: the kernel finds it as the exponent FIELD of
  `t = amax · (1/448)` (the greatest of the 256 fields whose power of two is at most `t`), the reference as the LEAST
  power of two above `t` (a minimum over 254 candidate exponents). Both are the same integer `z` in `[-125, 128]`.
-/
module

public import Idealize.ShloMosaic.PureOps.Ideal.Laws
public import Mathlib.Algebra.Order.Archimedean.Basic
public import Mathlib.Data.Finset.Fold

@[expose] public section

noncomputable section

namespace Cert.Quant

open Idealize.ShloMosaic

/-! ## The float words the two programs read -/

/-- The fields of the word `k << 23`, for the 256 exponent fields `k`: sign 0, exponent `k`, significand 0. -/
theorem field_word : ∀ k : Fin 256,
    ((IntOp.shli .vector (BitVec.ofNat 32 k.val) 23#32).extractLsb' 31 1 == 1#1) = false
    ∧ ((IntOp.shli .vector (BitVec.ofNat 32 k.val) 23#32).extractLsb' 23 8).toNat = k.val
    ∧ ((IntOp.shli .vector (BitVec.ofNat 32 k.val) 23#32).extractLsb' 0 23).toNat = 0 := by
  decide +kernel

/-- A word of sign 0, significand 0 and a normal exponent field `k` denotes `2^(k - 127)`. -/
theorem ieee_normal (b : BitVec 32) (k : Nat) (hs : (b.extractLsb' 31 1 == 1#1) = false)
    (he : (b.extractLsb' 23 8).toNat = k) (hf : (b.extractLsb' 0 23).toNat = 0) (h1 : 1 ≤ k) (h2 : k ≤ 254) :
    Ideal.ieee 8 23 b = (((2 : ℝ) ^ ((k : ℤ) - 127) : ℝ) : EReal) := by
  unfold Ideal.ieee
  simp only [Nat.reduceAdd, hs, he, hf]
  rw [if_neg (by omega), if_neg (by omega)]
  refine congrArg _ ?_
  simp only [Bool.false_eq_true, if_false, one_mul, Nat.add_zero]
  push_cast
  rw [show (8388608 : ℝ) = (2 : ℝ) ^ (23 : ℤ) by norm_num, ← zpow_add₀ (by norm_num)]
  refine congrArg _ ?_
  norm_num

/-- A word of sign 0, significand 0 and exponent field 255 denotes `+∞`. -/
theorem ieee_top (b : BitVec 32) (hs : (b.extractLsb' 31 1 == 1#1) = false)
    (he : (b.extractLsb' 23 8).toNat = 255) (hf : (b.extractLsb' 0 23).toNat = 0) :
    Ideal.ieee 8 23 b = ⊤ := by
  unfold Ideal.ieee
  simp only [Nat.reduceAdd, hs, he, hf]
  simp

/-- The word of a normal exponent field `k` denotes `2^(k - 127)`. -/
theorem ofBits_field (k : Fin 256) (h1 : 1 ≤ k.val) (h2 : k.val ≤ 254) :
    Ideal.ofBits .f32 (IntOp.shli .vector (BitVec.ofNat 32 k.val) 23#32) = (((2 : ℝ) ^ ((k.val : ℤ) - 127) : ℝ) : EReal) :=
  ieee_normal _ k.val (field_word k).1 (field_word k).2.1 (field_word k).2.2 h1 h2

/-- The word of the field 255 denotes `+∞`. -/
theorem ofBits_field_top (k : Fin 256) (h : k.val = 255) :
    Ideal.ofBits .f32 (IntOp.shli .vector (BitVec.ofNat 32 k.val) 23#32) = ⊤ :=
  ieee_top _ (field_word k).1 ((field_word k).2.1.trans h) (field_word k).2.2

theorem ofBits_negInf : Ideal.ofBits .f32 0xFF800000#32 = ⊥ := by
  simp [Ideal.ofBits, Ideal.ieee]

theorem ofBits_posInf : Ideal.ofBits .f32 0x7F800000#32 = ⊤ := by
  simp [Ideal.ofBits, Ideal.ieee]

theorem ofBits_125 : Ideal.ofBits .f32 0x42FA0000#32 = ((125 : ℝ) : EReal) := by
  simp [Ideal.ofBits, Ideal.ieee]; rw [← EReal.coe_mul]; norm_num

theorem ofBits_128 : Ideal.ofBits .f32 0x43000000#32 = ((128 : ℝ) : EReal) := by
  simp [Ideal.ofBits, Ideal.ieee]; rw [← EReal.coe_mul]; norm_num

/-- The least normal f32, `2^-126`. -/
theorem ofBits_minNormal : Ideal.ofBits .f32 0x00800000#32 = (((2 : ℝ) ^ (-126 : ℤ) : ℝ) : EReal) := by
  refine (ieee_normal 0x00800000#32 1 (by decide) (by decide) (by decide) (by decide) (by decide)).trans ?_
  norm_num

/-- The integer `k` of a lane index, as an ideal float. -/
theorem sitofp_lane (n : Nat) (h : n < 256) :
    (FloatOps.sitofp (F := Ideal) .f32 (BitVec.ofNat 32 n) : EReal) = ((n : ℝ) : EReal) := by
  show (((BitVec.ofNat 32 n).toInt : ℝ) : EReal) = _
  have : (BitVec.ofNat 32 n).toInt = (n : ℤ) := by
    rw [BitVec.toInt_eq_toNat_of_lt] <;> simp [BitVec.toNat_ofNat] <;> omega
  rw [this]; norm_cast

/-! ## The exponent the kernel finds -/

/-- The exponent field of `t`, as the kernel reads it: the greatest of the 256 fields whose word denotes at most `t`. -/
def field (t : EReal) : EReal :=
  (Finset.univ : Finset (Fin 256)).fold max (Ideal.ofBits .f32 0xFF800000#32) fun k =>
    Scalar.select (Ideal.cmp .oge t (Ideal.ofBits .f32 (IntOp.shli .vector (BitVec.ofNat 32 k.val) 23#32)))
      (FloatOps.sitofp (F := Ideal) .f32 (BitVec.ofNat 32 k.val)) (Ideal.ofBits .f32 0x00000000#32)

/-- The kernel's exponent word of a row whose largest magnitude is `a`. -/
def expWord (a : EReal) : BitVec 32 :=
  let f := Ideal.fptosi 32 (field (a * Ideal.ofBits .f32 0x3B124925#32))
  Scalar.select (Ideal.cmp .oeq a (Ideal.ofBits .f32 0x00000000#32)) 0#32
    (Scalar.select (IntOp.ori (IntOp.cmpi .eq f 0#32) (IntOp.cmpi .eq f 255#32)) 0#32 (IntOp.subi f 126#32))

/-- The least power of two above `t`, as the reference finds it: the minimum of the candidates `-125 … 128` whose power
    of two is above `t`, `128` where none is. -/
def above (t : EReal) : EReal :=
  (Finset.univ : Finset (Fin 254)).fold min (Ideal.ofBits .f32 0x7F800000#32) fun k =>
    Scalar.select (Ideal.cmp .olt t (Ideal.exp2 (FloatOps.sitofp (F := Ideal) .f32 (BitVec.ofNat 32 k.val) - Ideal.ofBits .f32 0x42FA0000#32)))
      (FloatOps.sitofp (F := Ideal) .f32 (BitVec.ofNat 32 k.val) - Ideal.ofBits .f32 0x42FA0000#32 : EReal)
      (Ideal.ofBits .f32 0x43000000#32)

/-- The reference's exponent of a row whose largest magnitude is `a`. -/
def expReal (a : EReal) : EReal :=
  let t := a * Ideal.ofBits .f32 0x3B124925#32
  Scalar.select (Ideal.cmp .oeq a (Ideal.ofBits .f32 0x00000000#32)) (Ideal.ofBits .f32 0x00000000#32)
    (Scalar.select (IntOp.ori (Ideal.cmp .olt t (Ideal.ofBits .f32 0x00800000#32)) (Ideal.cmp .oeq t (Ideal.ofBits .f32 0x7F800000#32)))
      (Ideal.ofBits .f32 0x00000000#32) (above t))

theorem select_ofBool {α : Type} (p : Bool) (x y : α) : Scalar.select (BitVec.ofBool p) x y = if p then x else y := by
  cases p <;> rfl

theorem ori_ofBool (p q : Bool) : IntOp.ori (BitVec.ofBool p) (BitVec.ofBool q) = BitVec.ofBool (p || q) := by
  cases p <;> cases q <;> rfl

/-- A candidate exponent of the reference, and its power of two. -/
theorem cand (k : Fin 254) : (FloatOps.sitofp (F := Ideal) .f32 (BitVec.ofNat 32 k.val) - Ideal.ofBits .f32 0x42FA0000#32 : EReal)
    = ((((k.val : ℤ) - 125 : ℤ) : ℝ) : EReal) := by
  rw [sitofp_lane _ (by omega), ofBits_125, ← EReal.coe_sub]
  push_cast; rfl

/-- `2^z` at an integer `z`. -/
theorem exp2_int (z : ℤ) : Ideal.exp2 ((z : ℝ) : EReal) = (((2 : ℝ) ^ z : ℝ) : EReal) := by
  rw [Ideal.exp2_coe]
  exact congrArg _ (Real.rpow_intCast 2 z)

/-- The powers of two grow with the exponent. -/
theorem two_zpow_le {p q : ℤ} : (2 : ℝ) ^ p ≤ (2 : ℝ) ^ q ↔ p ≤ q := zpow_le_zpow_iff_right₀ (by norm_num)

/-- What each field contributes to the kernel's maximum. -/
theorem field_term (t : EReal) (k : Fin 256) :
    Scalar.select (Ideal.cmp .oge t (Ideal.ofBits .f32 (IntOp.shli .vector (BitVec.ofNat 32 k.val) 23#32)))
      (FloatOps.sitofp (F := Ideal) .f32 (BitVec.ofNat 32 k.val)) (Ideal.ofBits .f32 0x00000000#32)
      = if Ideal.ofBits .f32 (IntOp.shli .vector (BitVec.ofNat 32 k.val) 23#32) ≤ t then ((k.val : ℝ) : EReal) else 0 := by
  unfold Ideal.cmp
  rw [select_ofBool, sitofp_lane _ k.isLt, Ideal.ofBits_zero_f32]
  simp only [decide_eq_true_eq]

/-- The field found is `n` when every field's word at most `t` is at most `n`, and `n`'s own is (or `n = 0`). -/
theorem field_eq (t : EReal) (n : Fin 256)
    (hle : ∀ k : Fin 256, Ideal.ofBits .f32 (IntOp.shli .vector (BitVec.ofNat 32 k.val) 23#32) ≤ t → k.val ≤ n.val)
    (hn : n.val = 0 ∨ Ideal.ofBits .f32 (IntOp.shli .vector (BitVec.ofNat 32 n.val) 23#32) ≤ t) :
    field t = ((n.val : ℝ) : EReal) := by
  unfold field
  simp only [field_term, ofBits_negInf]
  apply le_antisymm
  · rw [Finset.fold_max_le]
    refine ⟨bot_le, fun k _ => ?_⟩
    split
    · rename_i h
      exact EReal.coe_le_coe_iff.2 (Nat.cast_le.2 (hle k h))
    · exact EReal.coe_nonneg.2 (Nat.cast_nonneg _)
  · rw [Finset.le_fold_max]
    refine Or.inr ⟨n, Finset.mem_univ _, ?_⟩
    rcases hn with h | h
    · split <;> simp [h]
    · rw [if_pos h]

/-- The reference's least exponent is `z` when every candidate above `t` is at least `z` and `z`'s own is, or `z` is the
    last, `128`. -/
theorem above_eq (t : EReal) (z : ℤ) (h1 : -125 ≤ z) (h2 : z ≤ 128)
    (hle : ∀ i : ℤ, i ≤ 128 → t < (((2 : ℝ) ^ i : ℝ) : EReal) → z ≤ i)
    (hz : z = 128 ∨ t < (((2 : ℝ) ^ z : ℝ) : EReal)) : above t = ((z : ℝ) : EReal) := by
  unfold above
  simp only [cand, exp2_int, Ideal.cmp, select_ofBool, ofBits_128, ofBits_posInf, decide_eq_true_eq]
  apply le_antisymm
  · rw [Finset.fold_min_le]
    refine Or.inr ⟨⟨(z + 125).toNat, by omega⟩, Finset.mem_univ _, ?_⟩
    have e : (((z + 125).toNat : ℕ) : ℤ) - 125 = z := by omega
    simp only [e]
    rcases hz with h | h
    · split
      · exact le_rfl
      · subst h; norm_num
    · rw [if_pos h]
  · rw [Finset.le_fold_min]
    refine ⟨le_top, fun k _ => ?_⟩
    split
    · rename_i h
      exact EReal.coe_le_coe_iff.2 (Int.cast_le.2 (hle _ (by omega) h))
    · exact EReal.coe_le_coe_iff.2 (by exact_mod_cast h2)

/-- A field read back as an integer word. -/
theorem fptosi_field (n : Fin 256) : Ideal.fptosi 32 ((n.val : ℝ) : EReal) = BitVec.ofNat 32 n.val := by
  unfold Ideal.fptosi
  rw [Ideal.toIntClamped_coe, if_pos (Nat.cast_nonneg _), Int.floor_natCast]
  have := n.isLt
  rw [show max (-((2 ^ (32 - 1) : ℕ) : ℤ)) (min (((2 ^ (32 - 1) : ℕ) : ℤ) - 1) (n.val : ℤ)) = (n.val : ℤ) by norm_num; omega]
  exact BitVec.ofInt_natCast 32 n.val

/-- The kernel's exponent of each field: the field less 126, and 0 at the ends. -/
theorem word_of_field : ∀ n : Fin 256,
    Scalar.select (IntOp.ori (IntOp.cmpi .eq (BitVec.ofNat 32 n.val) 0#32) (IntOp.cmpi .eq (BitVec.ofNat 32 n.val) 255#32)) 0#32
      (IntOp.subi (BitVec.ofNat 32 n.val) 126#32)
      = BitVec.ofInt 32 (if n.val = 0 ∨ n.val = 255 then 0 else (n.val : ℤ) - 126) := by
  decide +kernel

/-- THE EXPONENTS AGREE: one integer `z` in `[-125, 128]` is the kernel's word and the reference's real. -/
theorem exponent (a : EReal) : ∃ z : ℤ, -125 ≤ z ∧ z ≤ 128 ∧ expWord a = BitVec.ofInt 32 z ∧ expReal a = ((z : ℝ) : EReal) := by
  unfold expWord expReal
  simp only [Ideal.cmp, select_ofBool, ori_ofBool, Ideal.ofBits_zero_f32, ofBits_posInf, ofBits_minNormal, decide_eq_true_eq,
    Bool.or_eq_true]
  by_cases ha : a = 0
  · exact ⟨0, by norm_num, by norm_num, by rw [if_pos ha]; rfl, by rw [if_pos ha]; simp⟩
  simp only [if_neg ha]
  generalize a * Ideal.ofBits .f32 0x3B124925#32 = t
  by_cases hlow : t < (((2 : ℝ) ^ (-126 : ℤ) : ℝ) : EReal)
  · refine ⟨0, by norm_num, by norm_num, ?_, by rw [if_pos (Or.inl hlow)]; simp⟩
    suffices hle : ∀ k : Fin 256, Ideal.ofBits .f32 (IntOp.shli .vector (BitVec.ofNat 32 k.val) 23#32) ≤ t → k.val ≤ (0 : Fin 256).val by
      rw [field_eq t 0 hle (Or.inl rfl), fptosi_field, word_of_field]; rfl
    intro k hk
    by_contra hne
    have h1 : 1 ≤ k.val := by
      have : ¬k.val ≤ 0 := hne
      omega
    rcases Nat.lt_or_ge k.val 255 with h | h
    · rw [ofBits_field k h1 (by omega)] at hk
      have := lt_of_le_of_lt hk hlow
      rw [EReal.coe_lt_coe_iff] at this
      exact absurd (two_zpow_le.2 (by omega : (-126 : ℤ) ≤ (k.val : ℤ) - 127)) (not_le.2 this)
    · rw [ofBits_field_top k (by omega), top_le_iff] at hk
      exact absurd hlow (by rw [hk]; exact not_top_lt)
  by_cases htop : t = ⊤
  · refine ⟨0, by norm_num, by norm_num, ?_, by rw [if_pos (Or.inr htop)]; simp⟩
    rw [field_eq t 255 (fun k _ => by show k.val ≤ 255; omega) (Or.inr (by rw [htop]; exact le_top)), fptosi_field, word_of_field]
    rfl
  rw [if_neg (by rintro (h | h); exacts [hlow h, htop h])]
  rw [not_lt] at hlow
  have hbot : t ≠ ⊥ := by
    rintro rfl
    exact absurd hlow (by rw [le_bot_iff]; exact EReal.coe_ne_bot _)
  lift t to ℝ using ⟨htop, hbot⟩
  rw [EReal.coe_le_coe_iff] at hlow
  have hpos : 0 < t := lt_of_lt_of_le (by positivity) hlow
  obtain ⟨y, hy1, hy2⟩ := exists_mem_Ico_zpow hpos (by norm_num : (1 : ℝ) < 2)
  have hy : -126 ≤ y := by
    have := lt_of_le_of_lt hlow hy2
    by_contra hc
    exact absurd (two_zpow_le.2 (by omega : y + 1 ≤ -126)) (not_le.2 this)
  -- the powers of two at most `t` are those of exponent at most `y`
  have key : ∀ i : ℤ, (2 : ℝ) ^ i ≤ t ↔ i ≤ y := fun i =>
    ⟨fun h => by
      by_contra hc
      exact absurd (two_zpow_le.2 (by omega : y + 1 ≤ i)) (not_le.2 (lt_of_le_of_lt h hy2)),
     fun h => le_trans (two_zpow_le.2 h) hy1⟩
  obtain ⟨z, hz⟩ : ∃ z : ℤ, z = min (y + 1) 128 := ⟨_, rfl⟩
  refine ⟨z, by omega, by omega, ?_, ?_⟩
  · have hn : ((z + 126).toNat : ℤ) = z + 126 := by omega
    have hle : ∀ k : Fin 256, Ideal.ofBits .f32 (IntOp.shli .vector (BitVec.ofNat 32 k.val) 23#32) ≤ (t : EReal) →
        k.val ≤ (z + 126).toNat := by
      intro k hk
      by_contra hne
      rcases Nat.lt_or_ge k.val 255 with h | h
      · rw [ofBits_field k (by omega) (by omega), EReal.coe_le_coe_iff, key] at hk
        omega
      · rw [ofBits_field_top k (by omega), top_le_iff] at hk
        exact absurd hk (EReal.coe_ne_top _)
    have hat : Ideal.ofBits .f32 (IntOp.shli .vector (BitVec.ofNat 32 (z + 126).toNat) 23#32) ≤ (t : EReal) := by
      refine le_of_eq_of_le (ofBits_field ⟨(z + 126).toNat, by omega⟩ (by show 1 ≤ (z + 126).toNat; omega)
        (by show (z + 126).toNat ≤ 254; omega)) ?_
      rw [EReal.coe_le_coe_iff, key]
      show ((z + 126).toNat : ℤ) - 127 ≤ y
      omega
    rw [field_eq _ ⟨(z + 126).toNat, by omega⟩ hle (Or.inr hat), fptosi_field, word_of_field]
    congr 1
    show (if (z + 126).toNat = 0 ∨ (z + 126).toNat = 255 then 0 else ((z + 126).toNat : ℤ) - 126) = z
    rw [if_neg (by omega)]; omega
  · apply above_eq _ z (by omega) (by omega)
    · intro i _ h
      rw [EReal.coe_lt_coe_iff, ← not_le, key] at h
      omega
    · rw [EReal.coe_lt_coe_iff, ← not_le, key]
      omega

/-! ## The scale -/

/-- The kernel's power of two of an exponent word: the product of the powers of two of its two halves. -/
def pow2 (e : BitVec 32) : EReal :=
  Ideal.ofBits .f32 (IntOp.shli .vector (IntOp.addi (IntOp.shrsi .vector e 1#32) 127#32) 23#32)
    * Ideal.ofBits .f32 (IntOp.shli .vector (IntOp.addi (IntOp.subi e (IntOp.shrsi .vector e 1#32)) 127#32) 23#32)

/-- The two halves of an exponent in `[-128, 128]`, biased: fields of normal words. -/
theorem halves : ∀ i : Fin 257,
    let z : ℤ := (i.val : ℤ) - 128
    IntOp.addi (IntOp.shrsi .vector (BitVec.ofInt 32 z) 1#32) 127#32 = BitVec.ofNat 32 (z / 2 + 127).toNat
    ∧ IntOp.addi (IntOp.subi (BitVec.ofInt 32 z) (IntOp.shrsi .vector (BitVec.ofInt 32 z) 1#32)) 127#32
        = BitVec.ofNat 32 (z - z / 2 + 127).toNat
    ∧ IntOp.subi 0#32 (BitVec.ofInt 32 z) = BitVec.ofInt 32 (-z) := by
  decide +kernel

/-- So the kernel's power of two of `z` is `2^z`. -/
theorem pow2_ofInt (z : ℤ) (h1 : -128 ≤ z) (h2 : z ≤ 128) : pow2 (BitVec.ofInt 32 z) = (((2 : ℝ) ^ z : ℝ) : EReal) := by
  obtain ⟨a, b, _⟩ := halves ⟨(z + 128).toNat, by omega⟩
  have e : (((z + 128).toNat : ℕ) : ℤ) - 128 = z := by omega
  simp only [e] at a b
  unfold pow2
  have ha := ofBits_field ⟨(z / 2 + 127).toNat, by omega⟩ (by show 1 ≤ (z / 2 + 127).toNat; omega) (by show (z / 2 + 127).toNat ≤ 254; omega)
  have hb := ofBits_field ⟨(z - z / 2 + 127).toNat, by omega⟩ (by show 1 ≤ (z - z / 2 + 127).toNat; omega) (by show (z - z / 2 + 127).toNat ≤ 254; omega)
  rw [a, b]
  dsimp only at ha hb
  rw [ha, hb, ← EReal.coe_mul, ← zpow_add₀ (by norm_num)]
  congr 2
  omega

/-- THE SCALES AGREE: the kernel's product of two powers of two is the reference's `exp2`. -/
theorem scale (a : EReal) : pow2 (expWord a) = Ideal.exp2 (expReal a) := by
  obtain ⟨z, h1, h2, hw, hr⟩ := exponent a
  rw [hw, hr, pow2_ofInt z (by omega) h2, exp2_int]

/-- THE RECIPROCAL SCALES AGREE likewise. -/
theorem inv_scale (a : EReal) : pow2 (IntOp.subi 0#32 (expWord a)) = Ideal.exp2 (Ideal.ofBits .f32 0x00000000#32 - expReal a) := by
  obtain ⟨z, h1, h2, hw, hr⟩ := exponent a
  obtain ⟨_, _, c⟩ := halves ⟨(z + 128).toNat, by omega⟩
  have e : (((z + 128).toNat : ℕ) : ℤ) - 128 = z := by omega
  simp only [e] at c
  rw [hw, hr, c, pow2_ofInt (-z) (by omega) (by omega), Ideal.ofBits_zero_f32, zero_sub, ← EReal.coe_neg, ← Int.cast_neg, exp2_int]

end Cert.Quant

end
-- ==== Proof.Row.lean ====
/-
  What both programs compute, row by row, over the extended reals: the largest magnitude of a row, its power-of-two scale,
  its clipped codes and its outputs, as functions of one row of the activations; the three result arrays they make; and the
  vector operations of both programs read at an index by coordinates, at any number of rows.
-/
module

public import proofs.«01_k».proof.Proof.Exponent
public import Idealize.ShloMosaic.Lib.Pipeline.Value
public import Idealize.ShloMosaic.Lib.ValueIdx
public import Idealize.ShloMosaic.Lib.ValueLayoutCasts
public import Idealize.ShloMosaic.Lib.MatmulPlain

@[expose] public section

noncomputable section

namespace Cert.Quant

open Idealize.ShloMosaic Idealize.ShloMosaic.ValueIdx
open scoped BigOperators

/-! ## One row -/

/-- The largest magnitude of a row. -/
def amax (x : Fin 1152 → EReal) : EReal :=
  (Finset.univ : Finset (Fin 1152)).fold max (Ideal.ofBits .f32 0xFF800000#32) fun k => max (x k) (-(x k))

/-- A row's scale, a power of two. -/
def rowScale (x : Fin 1152 → EReal) : EReal := Ideal.exp2 (expReal (amax x))

/-- A row's code at column `k`: the element over the scale, clipped to the code range. -/
def rowCode (x : Fin 1152 → EReal) (k : Fin 1152) : EReal :=
  min (Ideal.ofBits .f32 0x43E00000#32)
    (max (Ideal.ofBits .f32 0xC3E00000#32) (x k * Ideal.exp2 (Ideal.ofBits .f32 0x00000000#32 - expReal (amax x))))

/-- An output element: the codes against one weight row, scaled by the row's scale and by the weight row's, plus the
    residual. -/
def rowOut (x w : Fin 1152 → EReal) (ws res : EReal) : EReal := ((∑ k, rowCode x k * w k) * rowScale x) * ws + res

/-! ## The three result arrays -/

/-- The output array of the activations `X`, weights `W`, weight scales `S` and residual `R`. -/
def outArr (X : (⟨2, ![24576, 1152]⟩ : Shape).Idx → EReal) (W : (⟨2, ![3328, 1152]⟩ : Shape).Idx → EReal)
    (S : (⟨2, ![1, 3328]⟩ : Shape).Idx → EReal) (R : (⟨2, ![24576, 3328]⟩ : Shape).Idx → EReal) :
    (⟨2, ![24576, 3328]⟩ : Shape).Idx → EReal :=
  fun i => rowOut (fun k => X (ix2 (i 0) k)) (fun k => W (ix2 (i 1) k)) (S (ix2 0 (i 1))) (R i)

/-- The array of codes of the activations `X`. -/
def codeArr (X : (⟨2, ![24576, 1152]⟩ : Shape).Idx → EReal) : (⟨2, ![24576, 1152]⟩ : Shape).Idx → EReal :=
  fun i => rowCode (fun k => X (ix2 (i 0) k)) (i 1)

/-- The column of scales of the activations `X`. -/
def scaleArr (X : (⟨2, ![24576, 1152]⟩ : Shape).Idx → EReal) : (⟨2, ![24576, 1]⟩ : Shape).Idx → EReal :=
  fun i => rowScale (fun k => X (ix2 (i 0) k))

/-! ## The vector operations at an index -/

variable {n d : Nat} {φ : FTy}

/-- The maximum over the columns, at row `r`. -/
theorem rowMax_apply (src : FVec Ideal ⟨2, ![n, d]⟩ φ) (acc : BitVec φ.bits)
    (h : (⟨2, ![n, d]⟩ : Shape).Reduces [1] ⟨1, ![n]⟩) (hφ : FKind.Formats φ) (hacc : acc = FKind.maximumf.neutral φ hφ) (r : Fin n) :
    multiReduction .maximumf [1] ⟨1, ![n]⟩ src acc h hφ hacc (ix1 r)
      = (Finset.univ : Finset (Fin d)).fold max (Ideal.ofBits φ acc) fun k => src (ix2 r k) := by
  rw [Ideal.multiReduction_maximumf_single]
  refine congrArg (fun f => (Finset.univ : Finset (Fin d)).fold max (Ideal.ofBits φ acc) f) (funext fun k => ?_)
  refine congrArg src (funext fun a => Fin.ext ?_)
  match a with
  | ⟨0, _⟩ => rfl
  | ⟨1, _⟩ => rfl

/-- The minimum over the columns, at row `r`. -/
theorem rowMin_apply (src : FVec Ideal ⟨2, ![n, d]⟩ φ) (acc : BitVec φ.bits)
    (h : (⟨2, ![n, d]⟩ : Shape).Reduces [1] ⟨1, ![n]⟩) (hφ : FKind.Formats φ) (hacc : acc = FKind.minimumf.neutral φ hφ) (r : Fin n) :
    multiReduction .minimumf [1] ⟨1, ![n]⟩ src acc h hφ hacc (ix1 r)
      = (Finset.univ : Finset (Fin d)).fold min (Ideal.ofBits φ acc) fun k => src (ix2 r k) := by
  rw [multiReduction_minimumf_eq_fold]
  refine (h.fold_filter_drop_single _ _ src (ix1 r)).trans ?_
  refine congrArg (fun f => (Finset.univ : Finset (Fin d)).fold min (Ideal.ofBits φ acc) f) (funext fun k => ?_)
  refine congrArg src (funext fun a => Fin.ext ?_)
  match a with
  | ⟨0, _⟩ => rfl
  | ⟨1, _⟩ => rfl

/-- The maximum over the columns kept as a column, at row `r`. -/
theorem colMax_apply (src : FVec Ideal ⟨2, ![n, d]⟩ φ) (acc : BitVec φ.bits)
    (h : (⟨2, ![n, d]⟩ : Shape).Reduces [1] ⟨1, ![n]⟩) (hφ : FKind.Formats φ) (hacc : acc = FKind.maximumf.neutral φ hφ)
    (hc : (⟨1, ![n]⟩ : Shape).ShapeCasts ⟨2, ![n, 1]⟩) (r : Fin n) :
    shapeCast ⟨2, ![n, 1]⟩ (multiReduction .maximumf [1] ⟨1, ![n]⟩ src acc h hφ hacc) hc (ix2 r 0)
      = (Finset.univ : Finset (Fin d)).fold max (Ideal.ofBits φ acc) fun k => src (ix2 r k) :=
  (shapeCast_a_a1_apply _ hc r 0).trans (rowMax_apply src acc h hφ hacc r)

/-- The minimum over the columns kept as a column, at row `r`. -/
theorem colMin_apply (src : FVec Ideal ⟨2, ![n, d]⟩ φ) (acc : BitVec φ.bits)
    (h : (⟨2, ![n, d]⟩ : Shape).Reduces [1] ⟨1, ![n]⟩) (hφ : FKind.Formats φ) (hacc : acc = FKind.minimumf.neutral φ hφ)
    (hc : (⟨1, ![n]⟩ : Shape).ShapeCasts ⟨2, ![n, 1]⟩) (r : Fin n) :
    shapeCast ⟨2, ![n, 1]⟩ (multiReduction .minimumf [1] ⟨1, ![n]⟩ src acc h hφ hacc) hc (ix2 r 0)
      = (Finset.univ : Finset (Fin d)).fold min (Ideal.ofBits φ acc) fun k => src (ix2 r k) :=
  (shapeCast_a_a1_apply _ hc r 0).trans (rowMin_apply src acc h hφ hacc r)

/-- A column broadcast over the columns of an array, at `(r, k)`. -/
theorem column_apply {α : Type} (x : (⟨2, ![n, 1]⟩ : Shape).Idx → α) (h : (⟨2, ![n, 1]⟩ : Shape).Broadcasts ⟨2, ![n, d]⟩)
    (hn : n ≠ 1) (r : Fin n) (k : Fin d) : broadcastTo ⟨2, ![n, d]⟩ x h (ix2 r k) = x (ix2 r 0) := by
  refine broadcastTo_apply x h _ _ fun a => ?_
  match a with
  | ⟨0, _⟩ => exact (if_neg hn).symm
  | ⟨1, _⟩ => exact (if_pos rfl).symm

/-- A row broadcast over the rows of an array, at `(r, k)`. -/
theorem row_apply {α : Type} (x : (⟨2, ![1, d]⟩ : Shape).Idx → α) (h : (⟨2, ![1, d]⟩ : Shape).Broadcasts ⟨2, ![n, d]⟩)
    (hd : d ≠ 1) (r : Fin n) (k : Fin d) : broadcastTo ⟨2, ![n, d]⟩ x h (ix2 r k) = x (ix2 0 k) := by
  refine broadcastTo_apply x h _ _ fun a => ?_
  match a with
  | ⟨0, _⟩ => exact (if_pos rfl).symm
  | ⟨1, _⟩ => exact (if_neg hd).symm

/-- The lane numbers of an array of rows, at `(r, k)`. -/
theorem lane_apply (h) (r : Fin n) (k : Fin d) : iota .tc ⟨2, ![n, d]⟩ 32 [1] h (ix2 r k) = BitVec.ofNat 32 k.val := by
  show BitVec.ofNat 32 (0 * d + k.val) = _
  rw [Nat.zero_mul, Nat.zero_add]

end Cert.Quant

end
-- ==== Proof.KernelRow.lean ====
/-
  The kernel's body on one block of 512 rows, over the extended reals: its exponent words, scales, codes and outputs, row by
  row, as the functions of Proof/Row.lean.
-/
module

public import proofs.«01_k».proof.Proof.Row
public import proofs.«01_k».proof.Proof.Gen.KernelIdeal.Frame

@[expose] public section

noncomputable section

namespace Cert.KernelIdeal.Value

open Cert.KernelIdeal Cert.KernelIdeal.Gen Cert.Quant Idealize.ShloMosaic Idealize.ShloMosaic.ValueIdx
open scoped BigOperators

/-- Row `r` of a block. -/
abbrev rowOf (x : Vec Ideal S512x1152 .bf16) (r : Fin 512) : Fin 1152 → EReal := fun k => x (ix2 r k)

/-- The widened block is the block. -/
theorem pay1_eq (x : Vec Ideal S512x1152 .bf16) : k0_pay1 (F := Ideal) x = x := by
  unfold k0_pay1
  rw [shapeCast_self]
  rfl

/-- The largest magnitudes of the rows, as the column the kernel works with. -/
theorem amax_apply (x : Vec Ideal S512x1152 .bf16) (r : Fin 512) :
    shapeCast S512x1 (multiReduction .maximumf [1] S512 (absf (k0_pay1 (F := Ideal) x)) 0xFF800000#32 reduces_S512x1152_S512 (.inl rfl) rfl)
      shapeCasts_S512_S512x1 (ix2 r 0) = amax (rowOf x r) := by
  refine (colMax_apply _ _ _ _ _ _ r).trans ?_
  rw [pay1_eq]
  rfl

/-- The exponent field found of a column `t` of thresholds. -/
theorem field_apply (t : FVec Ideal S512x1 .f32) (r : Fin 512) :
    shapeCast S512x1 (multiReduction (F := Ideal) (φ := .f32) .maximumf [1] S512
      (select (cmpf (F := Ideal) .oge (broadcastTo S512x256 t broadcasts_S512x1_S512x256)
          (bitcastToFloat .f32 (shli (iota .tc S512x256 32 [1] iota_S512x256_d1_w32) (broadcast S512x256 23#32))))
        (sitofp (F := Ideal) .f32 (iota .tc S512x256 32 [1] iota_S512x256_d1_w32)) (broadcast S512x256 (Scalar.ofBits (F := Ideal) .f32 0x00000000#32)))
      0xFF800000#32 reduces_S512x256_S512 (.inl rfl) rfl) shapeCasts_S512_S512x1 (ix2 r 0) = field (t (ix2 r 0)) := by
  refine (colMax_apply _ _ _ _ _ _ r).trans ?_
  refine congrArg (fun f => (Finset.univ : Finset (Fin 256)).fold max (Ideal.ofBits .f32 0xFF800000#32) f) (funext fun k => ?_)
  show Scalar.select (Ideal.cmp .oge (broadcastTo S512x256 t broadcasts_S512x1_S512x256 (ix2 r k))
      (Ideal.ofBits .f32 (IntOp.shli .vector (iota .tc S512x256 32 [1] iota_S512x256_d1_w32 (ix2 r k)) 23#32)))
    (FloatOps.sitofp (F := Ideal) .f32 (iota .tc S512x256 32 [1] iota_S512x256_d1_w32 (ix2 r k))) (Ideal.ofBits .f32 0x00000000#32) = _
  rw [column_apply _ _ (by norm_num), lane_apply]

/-- The column of largest magnitudes. -/
def amaxCol (x : Vec Ideal S512x1152 .bf16) : FVec Ideal S512x1 .f32 :=
  shapeCast S512x1 (multiReduction .maximumf [1] S512 (absf (k0_pay1 (F := Ideal) x)) 0xFF800000#32 reduces_S512x1152_S512 (.inl rfl) rfl)
    shapeCasts_S512_S512x1

/-- The column of exponent fields found of a column `t` of thresholds. -/
def fieldCol (t : FVec Ideal S512x1 .f32) : FVec Ideal S512x1 .f32 :=
  shapeCast S512x1 (multiReduction (F := Ideal) (φ := .f32) .maximumf [1] S512
      (select (cmpf (F := Ideal) .oge (broadcastTo S512x256 t broadcasts_S512x1_S512x256)
          (bitcastToFloat .f32 (shli (iota .tc S512x256 32 [1] iota_S512x256_d1_w32) (broadcast S512x256 23#32))))
        (sitofp (F := Ideal) .f32 (iota .tc S512x256 32 [1] iota_S512x256_d1_w32)) (broadcast S512x256 (Scalar.ofBits (F := Ideal) .f32 0x00000000#32)))
      0xFF800000#32 reduces_S512x256_S512 (.inl rfl) rfl) shapeCasts_S512_S512x1

/-- The kernel's exponent words are a pointwise expression of the two columns. -/
theorem pay2_eq (x : Vec Ideal S512x1152 .bf16) : k0_pay2 (F := Ideal) x
    = select (cmpf (F := Ideal) .oeq (amaxCol x) (broadcast S512x1 (Scalar.ofBits .f32 0x00000000#32))) (broadcast S512x1 0#32)
        (select (ori
            (cmpi .eq (fptosi 32 (fieldCol (mulf (amaxCol x) (broadcast S512x1 (Scalar.ofBits .f32 0x3B124925#32))))) (broadcast S512x1 0#32))
            (cmpi .eq (fptosi 32 (fieldCol (mulf (amaxCol x) (broadcast S512x1 (Scalar.ofBits .f32 0x3B124925#32))))) (broadcast S512x1 255#32)))
          (broadcast S512x1 0#32)
          (subi (fptosi 32 (fieldCol (mulf (amaxCol x) (broadcast S512x1 (Scalar.ofBits .f32 0x3B124925#32))))) (broadcast S512x1 126#32))) := by
  unfold k0_pay2 fieldCol amaxCol
  rfl

/-- The exponent words' pointwise expression at row `r`. -/
theorem word_apply (a f : FVec Ideal S512x1 .f32) (r : Fin 512) :
    select (cmpf (F := Ideal) .oeq a (broadcast S512x1 (Scalar.ofBits .f32 0x00000000#32))) (broadcast S512x1 0#32)
        (select (ori (cmpi .eq (fptosi 32 f) (broadcast S512x1 0#32)) (cmpi .eq (fptosi 32 f) (broadcast S512x1 255#32)))
          (broadcast S512x1 0#32) (subi (fptosi 32 f) (broadcast S512x1 126#32))) (ix2 r 0)
      = Scalar.select (Ideal.cmp .oeq (a (ix2 r 0)) (Ideal.ofBits .f32 0x00000000#32)) 0#32
          (Scalar.select (IntOp.ori (IntOp.cmpi .eq (Ideal.fptosi 32 (f (ix2 r 0))) 0#32) (IntOp.cmpi .eq (Ideal.fptosi 32 (f (ix2 r 0))) 255#32))
            0#32 (IntOp.subi (Ideal.fptosi 32 (f (ix2 r 0))) 126#32)) := rfl

/-- A column times a constant, at row `r`. -/
theorem times_apply (a : FVec Ideal S512x1 .f32) (b : BitVec 32) (r : Fin 512) :
    mulf a (broadcast S512x1 (Scalar.ofBits .f32 b)) (ix2 r 0) = a (ix2 r 0) * Ideal.ofBits .f32 b := rfl

/-- The exponent word of row `r`. -/
theorem pay2_apply (x : Vec Ideal S512x1152 .bf16) (r : Fin 512) : k0_pay2 (F := Ideal) x (ix2 r 0) = expWord (amax (rowOf x r)) := by
  have ha : amaxCol x (ix2 r 0) = amax (rowOf x r) := amax_apply x r
  have hf : fieldCol (mulf (amaxCol x) (broadcast S512x1 (Scalar.ofBits .f32 0x3B124925#32))) (ix2 r 0)
      = field (amax (rowOf x r) * Ideal.ofBits .f32 0x3B124925#32) := by
    refine (field_apply _ r).trans ?_
    rw [times_apply, ha]
  rw [pay2_eq, word_apply, ha, hf]
  unfold expWord
  rfl

/-- The product of the powers of two of a word's halves, at row `r`. -/
theorem pow2_apply (e : IVec S512x1 32) (r : Fin 512) :
    mulf (F := Ideal) (bitcastToFloat .f32 (shli (addi (shrsi e (broadcast S512x1 1#32)) (broadcast S512x1 127#32)) (broadcast S512x1 23#32)))
        (bitcastToFloat .f32 (shli (addi (subi e (shrsi e (broadcast S512x1 1#32))) (broadcast S512x1 127#32)) (broadcast S512x1 23#32)))
        (ix2 r 0) = pow2 (e (ix2 r 0)) := rfl

/-- The scale of row `r`: the power of two of the exponent. -/
theorem scale_apply (x : Vec Ideal S512x1152 .bf16) (r : Fin 512) :
    k0_pay7 (F := Ideal) (k0_pay4 x) (k0_pay5 x) k0_pay6 (ix2 r 0) = rowScale (rowOf x r) := by
  unfold rowScale k0_pay7 k0_pay4 k0_pay5 k0_pay6 k0_pay3
  refine (pow2_apply (k0_pay2 x) r).trans ?_
  rw [pay2_apply, scale]

/-- The codes as a pointwise expression of the exponent words, at `(r, k)`. -/
theorem clip_apply (v : FVec Ideal S512x1152 .f32) (e : IVec S512x1 32) (r : Fin 512) (k : Fin 1152) :
    k0_pay8 (F := Ideal) v e (ix2 r k)
      = min (Ideal.ofBits .f32 0x43E00000#32) (max (Ideal.ofBits .f32 0xC3E00000#32) (v (ix2 r k) * pow2 (IntOp.subi 0#32 (e (ix2 r 0))))) := by
  unfold k0_pay8
  rw [truncf_apply, minimumf_apply, maximumf_apply, mulf_apply, column_apply _ _ (by norm_num)]
  rfl

/-- The code of row `r` at column `k`. -/
theorem code_apply (x : Vec Ideal S512x1152 .bf16) (r : Fin 512) (k : Fin 1152) :
    k0_pay8 (F := Ideal) (k0_pay1 x) (k0_pay2 x) (ix2 r k) = rowCode (rowOf x r) k := by
  unfold rowCode
  rw [clip_apply, pay2_apply, inv_scale, pay1_eq]

/-- THE VALUE OF ONE CHUNK of 256 output columns, at `(r, j)`: every chunk's payload is this expression of the scales, the
    codes and the chunk's weight rows, weight scales and residual. -/
theorem chunk_apply (s : FVec Ideal S512x1 .f32) (q : FVec Ideal S512x1152 .fp8e4m3) (w : Vec Ideal S256x1152 .fp8e4m3)
    (ws : Vec Ideal S1x256 .f32) (res : Vec Ideal S512x256 .bf16) (r : Fin 512) (j : Fin 256) :
    k0_pay11 (F := Ideal) s q w ws res (ix2 r j)
      = ((∑ k : Fin 1152, q (ix2 r k) * w (ix2 j k)) * s (ix2 r 0)) * ws (ix2 0 j) + res (ix2 r j) := by
  unfold k0_pay11
  rw [shapeCast_self, shapeCast_self]
  show (matmul dot_S512x1152_S256x1152_S512x256_1_1_0_0_n_n none q w (constant S512x256 .f32 0x00000000#32) (ix2 r j)
      * broadcastTo S512x256 s broadcasts_S512x1_S512x256 (ix2 r j)) * broadcastTo S512x256 ws broadcasts_S1x256_S512x256 (ix2 r j)
    + res (ix2 r j) = _
  rw [column_apply _ _ (by norm_num), row_apply _ _ (by norm_num)]
  have hm := Ideal.matmul_transposedRhs_apply (M := 512) (K := 1152) (N := 256) (φ₁ := .fp8e4m3) (φ₂ := .fp8e4m3) none q w (constant S512x256 .f32 0x00000000#32) r j
  rw [constant_apply, Ideal.ofBits_zero_f32, zero_add] at hm
  refine congrArg (fun e => e * s (ix2 r 0) * ws (ix2 0 j) + res (ix2 r j)) (Eq.trans ?_ hm)
  rfl

end Cert.KernelIdeal.Value

end
-- ==== Proof.KernelBlock.lean ====
/-
  What the kernel's body leaves in its three output buffers at a grid point, from the point's input blocks, over the extended
  reals: the outputs, the codes and the scales of the block's rows.
-/
module

public import proofs.«01_k».proof.Proof.KernelRow

@[expose] public section

noncomputable section

namespace Cert.KernelIdeal.Value

open Cert.KernelIdeal Cert.KernelIdeal.Gen Cert.Quant Idealize.ShloMosaic Idealize.ShloMosaic.ValueIdx
open scoped BigOperators

variable (x0 : Vec Ideal S512x1152 .bf16) (x1 : Vec Ideal S3328x1152 .fp8e4m3) (x2 : Vec Ideal S1x3328 .f32) (x3 : Vec Ideal S512x3328 .bf16)

theorem hz : (![0, 0] : Fin 2 → Nat) = fun _ => 0 := funext fun a => by fin_cases a <;> rfl

/-- The block's outputs. -/
def blkOut : Vec Ideal S512x3328 .bf16 :=
  fun i => rowOut (rowOf x0 (i 0)) (fun k => x1 (ix2 (i 1) k)) (x2 (ix2 0 (i 1))) (x3 i)

/-- The block's codes. -/
def blkCode : Vec Ideal S512x1152 .fp8e4m3 := fun i => rowCode (rowOf x0 (i 0)) (i 1)

/-- The block's scales. -/
def blkScale : Vec Ideal S512x1 .f32 := fun i => rowScale (rowOf x0 (i 0))

/-- The scales as the body computes them. -/
theorem scales_apply (r : Fin 512) : k0_pay30 x0 x1 x2 x3 (ix2 r 0) = rowScale (rowOf x0 r) := by
  unfold k0_pay30 k0_pay27 k0_pay28 k0_pay29
  rw [View.ld_unit_zero hz]
  exact scale_apply x0 r

/-- The codes as the body computes them. -/
theorem codes_apply (r : Fin 512) (k : Fin 1152) : k0_pay31 x0 x1 x2 x3 (ix2 r k) = rowCode (rowOf x0 r) k := by
  unfold k0_pay31 k0_pay25 k0_pay26
  rw [View.ld_unit_zero hz]
  exact code_apply x0 r k

/-- THE CODES left in the second output's buffer. -/
theorem out5_eq : out0_5 (F := Ideal) x0 x1 x2 x3 = blkCode x0 := by
  unfold out0_5
  rw [View.canon_unit_zero hz]
  funext i
  rw [eq_ix2 i]
  exact codes_apply x0 x1 x2 x3 (i 0) (i 1)

/-- THE SCALES left in the third output's buffer. -/
theorem out6_eq : out0_6 (F := Ideal) x0 x1 x2 x3 = blkScale x0 := by
  unfold out0_6
  rw [View.canon_unit_zero hz]
  funext i
  obtain ⟨r, u, rfl⟩ : ∃ (r : Fin 512) (u : Fin 1), i = ix2 r u := ⟨i 0, i 1, eq_ix2 i⟩
  obtain rfl : u = 0 := Subsingleton.elim _ _
  exact scales_apply x0 x1 x2 x3 r

/-- ONE CHUNK'S OUTPUTS, the 256 columns from `o` on: the block's outputs read through the chunk's own rectangle. -/
theorem chunk_eq (o : Nat) (hw : ∀ a, (![o, 0] : Fin 2 → Nat) a + S256x1152.size a ≤ S3328x1152.size a)
    (hs : ∀ a, (![0, o] : Fin 2 → Nat) a + S1x256.size a ≤ S1x3328.size a)
    (hr : ∀ a, (![0, o] : Fin 2 → Nat) a + S512x256.size a ≤ S512x3328.size a) (j : S512x256.Idx) :
    k0_pay11 (F := Ideal) (k0_pay30 x0 x1 x2 x3) (k0_pay31 x0 x1 x2 x3)
        (View.ld x1 (Rect.unit (s := S3328x1152) ![o, 0] S256x1152.size hw))
        (View.ld x2 (Rect.unit (s := S1x3328) ![0, o] S1x256.size hs))
        (View.ld x3 (Rect.unit (s := S512x3328) ![0, o] S512x256.size hr)) j
      = blkOut x0 x1 x2 x3 ((Rect.unit (s := S512x3328) ![0, o] S512x256.size hr).emb j) := by
  obtain ⟨r, c, rfl⟩ : ∃ (r : Fin 512) (c : Fin 256), j = ix2 r c := ⟨j 0, j 1, eq_ix2 j⟩
  have hb : o + 256 ≤ 3328 := hr 1
  have hc : o + c.val < 3328 := by have := c.isLt; omega
  rw [chunk_apply]
  have e3 : (Rect.unit (s := S512x3328) ![0, o] S512x256.size hr).emb (ix2 r c) = ix2 r (⟨o + c.val, hc⟩ : Fin 3328) := by
    funext a; apply Fin.ext
    match a with
    | ⟨0, _⟩ => show 0 + 1 * r.val = r.val; omega
    | ⟨1, _⟩ => show o + 1 * c.val = o + c.val; omega
  have e2 : (Rect.unit (s := S1x3328) ![0, o] S1x256.size hs).idx (ix2 0 c) = ix2 0 (⟨o + c.val, hc⟩ : Fin 3328) := by
    funext a; apply Fin.ext
    match a with
    | ⟨0, _⟩ => rfl
    | ⟨1, _⟩ => show o + 1 * c.val = o + c.val; omega
  have e1 : ∀ k : Fin 1152, (Rect.unit (s := S3328x1152) ![o, 0] S256x1152.size hw).idx (ix2 c k) = ix2 (⟨o + c.val, hc⟩ : Fin 3328) k := by
    intro k
    funext a; apply Fin.ext
    match a with
    | ⟨0, _⟩ => show o + 1 * c.val = o + c.val; omega
    | ⟨1, _⟩ => show 0 + 1 * k.val = k.val; omega
  have e3' : (Rect.unit (s := S512x3328) ![0, o] S512x256.size hr).idx (ix2 r c) = ix2 r (⟨o + c.val, hc⟩ : Fin 3328) := e3
  simp only [View.ld, e1, e2, e3']
  rw [e3, scales_apply]
  unfold blkOut rowOut
  refine congrArg (fun s => s * rowScale (rowOf x0 r) * x2 (ix2 0 ⟨o + c.val, hc⟩) + x3 (ix2 r ⟨o + c.val, hc⟩))
    (Finset.sum_congr rfl fun k _ => ?_)
  rw [codes_apply]

/-- THE OUTPUTS left in the first output's buffer: thirteen chunks, each with the block's own outputs there. -/
theorem out4_eq : out0_4 (F := Ideal) x0 x1 x2 x3 = blkOut x0 x1 x2 x3 := by
  funext y
  unfold out0_4
  refine View.canon_apply_of_pieces (blkOut x0 x1 x2 x3) _ (fun p hp j => ?_) y (cover0_4 _ _ _ _ _ _ _ _ _ _ _ _ _ y)
  simp only [List.mem_cons, List.mem_nil_iff, or_false] at hp
  rcases hp with rfl | rfl | rfl | rfl | rfl | rfl | rfl | rfl | rfl | rfl | rfl | rfl | rfl
  all_goals exact chunk_eq x0 x1 x2 x3 _ _ _ _ j

end Cert.KernelIdeal.Value

end
-- ==== Proof.KernelRun.lean ====
/-
  The kernel's run with its result arrays named: `run_blocks` is the frame run with each result array after it as the
  pipeline's array at the last point, and `flushed_w` what one point writes back to it.
-/
module

public import proofs.«01_k».proof.Proof.Gen.KernelIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t) (iblk m c 2 t) (iblk m c 3 t)) := by
  show (cfg0.win 4).cut (grid0.coords t) ((dats m 0 c).after 4 t) = _
  rw [after0_4]

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t)) := by
  show (cfg0.win 5).cut (grid0.coords t) ((dats m 0 c).after 5 t) = _
  rw [after0_5]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t)) := by
  show (cfg0.win 6).cut (grid0.coords t) ((dats m 0 c).after 6 t) = _
  rw [after0_6]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v3_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v3_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v3_2) = (dats m 0 c).arrAt 6 cfg0.N :=
  (h c).1 6

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run NAMED — `(dats m 0 c).arrAt w N` —,
    the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 4 cfg0.N
      ∧ r.2.mem ((c : Thread nD τ).loc main_v3_1) = (dats m 0 c).arrAt 5 cfg0.N
      ∧ r.2.mem ((c : Thread nD τ).loc main_v3_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      post6 m r h c,
      kept_main_arg0 m r h c,
      kept_main_arg1 m r h c,
      kept_main_arg2 m r h c,
      kept_main_arg3 m r h c⟩)
    (run_main m ρ)

end Cert.KernelIdeal.Value

end
-- ==== Proof.KernelArrays.lean ====
/-
  The kernel's three result arrays after its run, over the extended reals: the outputs, codes and scales of Proof/Row.lean at
  the argument arrays. Each grid point writes its own block of 512 rows, and the 48 blocks cover the arrays.
-/
module

public import proofs.«01_k».proof.Proof.KernelBlock
public import proofs.«01_k».proof.Proof.KernelRun
public import Idealize.ShloMosaic.Lib.StableHlo.Run
public import Idealize.ShloMosaic.Lib.Tactic
public import Idealize.ShloMosaic.Lib.Quiescent

@[expose] public section

noncomputable section

namespace Cert.KernelIdeal.Value

open Cert.KernelIdeal Cert.KernelIdeal.Gen Cert.Quant Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-! ## The arrays the windows read -/

/-- The activations: the argument as rows. -/
abbrev actArr (c : Dev nD) : S24576x1152.Idx → EReal :=
  shapeCast S24576x1152 (m ((c : Thread nD τ).loc main_arg0)) shapeCasts_S3x8192x1152_S24576x1152
/-- The weights. -/
abbrev wArr (c : Dev nD) : S3328x1152.Idx → EReal := m ((c : Thread nD τ).loc main_arg1)
/-- The weight scales: the argument as one row. -/
abbrev wsArr (c : Dev nD) : S1x3328.Idx → EReal :=
  shapeCast S1x3328 (m ((c : Thread nD τ).loc main_arg2)) shapeCasts_S3328_S1x3328
/-- The residual: the argument as rows. -/
abbrev resArr (c : Dev nD) : S24576x3328.Idx → EReal :=
  shapeCast S24576x3328 (m ((c : Thread nD τ).loc main_arg3)) shapeCasts_S3x8192x3328_S24576x3328

theorem V_v0 (c : Dev nD) : V m c main_v0 = actArr m c := by
  show StableHlo.after hostOps0 _ (Proc.devRef .tc main_v0) = _
  unfold hostOps0
  after_results
  rfl
theorem V_v1 (c : Dev nD) : V m c main_v1 = wsArr m c := by
  show StableHlo.after hostOps0 _ (Proc.devRef .tc main_v1) = _
  unfold hostOps0
  after_results
  rfl
theorem V_v2 (c : Dev nD) : V m c main_v2 = resArr m c := by
  show StableHlo.after hostOps0 _ (Proc.devRef .tc main_v2) = _
  unfold hostOps0
  after_results
  rfl

/-! ## The blocks -/

/-- Where each window's block lies at point `t` (decided over the 48 points): the moving windows' at row block `t`, the
    weights' and weight scales' at the origin. -/
theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = t.val ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel
theorem idx6 : ∀ t : Fin grid0.N, win0_6.index t 0 = t.val ∧ win0_6.index t 1 = 0 := by decide +kernel

theorem N_lt (t : Fin cfg0.N) : t.val < 48 := by have h : cfg0.N = 48 := N_0; have := t.isLt; omega

/-- Row `r` of block `t`. -/
abbrev rowAt (t : Fin cfg0.N) (r : Fin 512) : Fin 24576 := ⟨t.val * 512 + r.val, by have := N_lt t; have := r.isLt; omega⟩

theorem iblk0_apply (c : Dev nD) (t : Fin cfg0.N) (r : Fin 512) (k : Fin 1152) :
    (iblk m c 0 t : Vec Ideal S512x1152 .bf16) (ix2 r k) = actArr m c (ix2 (rowAt t r) k) := by
  unfold iblk
  rw [View.read_apply]
  show V m c main_v0 _ = _
  rw [V_v0]
  refine congrArg (actArr m c) (funext fun a => Fin.ext ?_)
  match a with
  | ⟨0, _⟩ => show win0_0.index t 0 * 512 + 1 * r.val = t.val * 512 + r.val; rw [(idx0 t).1]; omega
  | ⟨1, _⟩ => show win0_0.index t 1 * 1152 + 1 * k.val = k.val; rw [(idx0 t).2]; omega

theorem iblk1_eq (c : Dev nD) (t : Fin cfg0.N) : (iblk m c 1 t : Vec Ideal S3328x1152 .fp8e4m3) = wArr m c := by
  funext i
  unfold iblk
  rw [View.read_apply]
  show V m c main_arg1 _ = _
  rw [V_main_arg1]
  refine congrArg (wArr m c) (funext fun a => Fin.ext ?_)
  match a with
  | ⟨0, _⟩ => show win0_1.index t 0 * 3328 + 1 * (i 0).val = (i 0).val; rw [(idx1 t).1]; omega
  | ⟨1, _⟩ => show win0_1.index t 1 * 1152 + 1 * (i 1).val = (i 1).val; rw [(idx1 t).2]; omega

theorem iblk2_eq (c : Dev nD) (t : Fin cfg0.N) : (iblk m c 2 t : Vec Ideal S1x3328 .f32) = wsArr m c := by
  funext i
  unfold iblk
  rw [View.read_apply]
  show V m c main_v1 _ = _
  rw [V_v1]
  refine congrArg (wsArr m c) (funext fun a => Fin.ext ?_)
  match a with
  | ⟨0, _⟩ => show win0_2.index t 0 * 1 + 1 * (i 0).val = (i 0).val; rw [(idx2 t).1]; omega
  | ⟨1, _⟩ => show win0_2.index t 1 * 3328 + 1 * (i 1).val = (i 1).val; rw [(idx2 t).2]; omega

theorem iblk3_apply (c : Dev nD) (t : Fin cfg0.N) (r : Fin 512) (k : Fin 3328) :
    (iblk m c 3 t : Vec Ideal S512x3328 .bf16) (ix2 r k) = resArr m c (ix2 (rowAt t r) k) := by
  unfold iblk
  rw [View.read_apply]
  show V m c main_v2 _ = _
  rw [V_v2]
  refine congrArg (resArr m c) (funext fun a => Fin.ext ?_)
  match a with
  | ⟨0, _⟩ => show win0_3.index t 0 * 512 + 1 * r.val = t.val * 512 + r.val; rw [(idx3 t).1]; omega
  | ⟨1, _⟩ => show win0_3.index t 1 * 3328 + 1 * k.val = k.val; rw [(idx3 t).2]; omega

/-- Row `r` of point `t`'s block of activations. -/
theorem rowOf_iblk (c : Dev nD) (t : Fin cfg0.N) (r : Fin 512) :
    rowOf (iblk m c 0 t : Vec Ideal S512x1152 .bf16) r = fun k => actArr m c (ix2 (rowAt t r) k) :=
  funext fun k => iblk0_apply m c t r k

/-! ## What each point writes back -/

/-- The result arrays. -/
abbrev outVal (c : Dev nD) : Buf (Elt Ideal) ((c : Thread nD τ).loc main_v3_0) := outArr (actArr m c) (wArr m c) (wsArr m c) (resArr m c)
abbrev codeVal (c : Dev nD) : Buf (Elt Ideal) ((c : Thread nD τ).loc main_v3_1) := codeArr (actArr m c)
abbrev scaleVal (c : Dev nD) : Buf (Elt Ideal) ((c : Thread nD τ).loc main_v3_2) := scaleArr (actArr m c)

theorem flushed4_eq (c : Dev nD) (t : Fin cfg0.N) :
    (dats m 0 c).flushed 4 t = ((cfg0.win 4).blk t).view.read (Elt Ideal) (outVal m c) := by
  rw [flushed4, out4_eq, iblk1_eq, iblk2_eq]
  funext j
  obtain ⟨r, k, rfl⟩ : ∃ (r : Fin 512) (k : Fin 3328), j = ix2 r k := ⟨j 0, j 1, eq_ix2 j⟩
  rw [View.read_apply]
  have e : ((cfg0.win 4).blk t).view.emb (ix2 r k) = (ix2 (rowAt t r) k : S24576x3328.Idx) := by
    funext a; apply Fin.ext
    match a with
    | ⟨0, _⟩ => show win0_4.index t 0 * 512 + 1 * r.val = t.val * 512 + r.val; rw [(idx4 t).1]; omega
    | ⟨1, _⟩ => show win0_4.index t 1 * 3328 + 1 * k.val = k.val; rw [(idx4 t).2]; omega
  rw [e]
  show rowOut (rowOf (iblk m c 0 t : Vec Ideal S512x1152 .bf16) r) (fun q => wArr m c (ix2 k q)) (wsArr m c (ix2 0 k))
    ((iblk m c 3 t : Vec Ideal S512x3328 .bf16) (ix2 r k)) = _
  rw [rowOf_iblk, iblk3_apply]
  rfl

theorem flushed5_eq (c : Dev nD) (t : Fin cfg0.N) :
    (dats m 0 c).flushed 5 t = ((cfg0.win 5).blk t).view.read (Elt Ideal) (codeVal m c) := by
  rw [flushed5, out5_eq]
  funext j
  obtain ⟨r, k, rfl⟩ : ∃ (r : Fin 512) (k : Fin 1152), j = ix2 r k := ⟨j 0, j 1, eq_ix2 j⟩
  rw [View.read_apply]
  have e : ((cfg0.win 5).blk t).view.emb (ix2 r k) = (ix2 (rowAt t r) k : S24576x1152.Idx) := by
    funext a; apply Fin.ext
    match a with
    | ⟨0, _⟩ => show win0_5.index t 0 * 512 + 1 * r.val = t.val * 512 + r.val; rw [(idx5 t).1]; omega
    | ⟨1, _⟩ => show win0_5.index t 1 * 1152 + 1 * k.val = k.val; rw [(idx5 t).2]; omega
  rw [e]
  show rowCode (rowOf (iblk m c 0 t : Vec Ideal S512x1152 .bf16) r) k = _
  rw [rowOf_iblk]
  rfl

theorem flushed6_eq (c : Dev nD) (t : Fin cfg0.N) :
    (dats m 0 c).flushed 6 t = ((cfg0.win 6).blk t).view.read (Elt Ideal) (scaleVal m c) := by
  rw [flushed6, out6_eq]
  funext j
  obtain ⟨r, u, rfl⟩ : ∃ (r : Fin 512) (u : Fin 1), j = ix2 r u := ⟨j 0, j 1, eq_ix2 j⟩
  rw [View.read_apply]
  have e : ((cfg0.win 6).blk t).view.emb (ix2 r u) = (ix2 (rowAt t r) u : S24576x1.Idx) := by
    funext a; apply Fin.ext
    match a with
    | ⟨0, _⟩ => show win0_6.index t 0 * 512 + 1 * r.val = t.val * 512 + r.val; rw [(idx6 t).1]; omega
    | ⟨1, _⟩ => show win0_6.index t 1 * 1 + 1 * u.val = u.val; rw [(idx6 t).2]; omega
  rw [e]
  show rowScale (rowOf (iblk m c 0 t : Vec Ideal S512x1152 .bf16) r) = _
  rw [rowOf_iblk]
  rfl

/-! ## The blocks cover the arrays -/

theorem size4 : ∀ t : Fin grid0.N, win0_4.xsize (grid0.coords t) 0 = 512 ∧ win0_4.xsize (grid0.coords t) 1 = 3328 := by decide +kernel
theorem size5 : ∀ t : Fin grid0.N, win0_5.xsize (grid0.coords t) 0 = 512 ∧ win0_5.xsize (grid0.coords t) 1 = 1152 := by decide +kernel
theorem size6 : ∀ t : Fin grid0.N, win0_6.xsize (grid0.coords t) 0 = 512 ∧ win0_6.xsize (grid0.coords t) 1 = 1 := by decide +kernel

/-- The point whose block holds row `r`. -/
abbrev pointOf (r : Nat) (h : r < 24576) : Fin cfg0.N := ⟨r / 512, by have h' : cfg0.N = 48 := N_0; omega⟩

theorem covered4 (i : S24576x3328.Idx) : ∃ t : Fin cfg0.N, (cfg0.win 4).flush t = true ∧ i ∈ ((cfg0.win 4).blk t).view.set := by
  have h0 : (i 0).val < 24576 := (i 0).isLt
  have h1 : (i 1).val < 3328 := (i 1).isLt
  obtain ⟨t, ht⟩ : ∃ t : Fin cfg0.N, t.val = (i 0).val / 512 := ⟨pointOf _ h0, rfl⟩
  refine ⟨t, flush0_4 _, ?_⟩
  show i ∈ ((View.whole main_v3_0).slice (win0_4.rect t)).set
  rw [View.set_slice_whole, Rect.mem_set_unit]
  intro a
  match a with
  | ⟨0, _⟩ =>
    show win0_4.index t 0 * 512 ≤ (i 0).val ∧ (i 0).val < win0_4.index t 0 * 512 + win0_4.xsize (grid0.coords t) 0
    rw [(idx4 t).1, (size4 t).1, ht]; omega
  | ⟨1, _⟩ =>
    show win0_4.index t 1 * 3328 ≤ (i 1).val ∧ (i 1).val < win0_4.index t 1 * 3328 + win0_4.xsize (grid0.coords t) 1
    rw [(idx4 t).2, (size4 t).2]; omega

theorem covered5 (i : S24576x1152.Idx) : ∃ t : Fin cfg0.N, (cfg0.win 5).flush t = true ∧ i ∈ ((cfg0.win 5).blk t).view.set := by
  have h0 : (i 0).val < 24576 := (i 0).isLt
  have h1 : (i 1).val < 1152 := (i 1).isLt
  obtain ⟨t, ht⟩ : ∃ t : Fin cfg0.N, t.val = (i 0).val / 512 := ⟨pointOf _ h0, rfl⟩
  refine ⟨t, flush0_5 _, ?_⟩
  show i ∈ ((View.whole main_v3_1).slice (win0_5.rect t)).set
  rw [View.set_slice_whole, Rect.mem_set_unit]
  intro a
  match a with
  | ⟨0, _⟩ =>
    show win0_5.index t 0 * 512 ≤ (i 0).val ∧ (i 0).val < win0_5.index t 0 * 512 + win0_5.xsize (grid0.coords t) 0
    rw [(idx5 t).1, (size5 t).1, ht]; omega
  | ⟨1, _⟩ =>
    show win0_5.index t 1 * 1152 ≤ (i 1).val ∧ (i 1).val < win0_5.index t 1 * 1152 + win0_5.xsize (grid0.coords t) 1
    rw [(idx5 t).2, (size5 t).2]; omega

theorem covered6 (i : S24576x1.Idx) : ∃ t : Fin cfg0.N, (cfg0.win 6).flush t = true ∧ i ∈ ((cfg0.win 6).blk t).view.set := by
  have h0 : (i 0).val < 24576 := (i 0).isLt
  have h1 : (i 1).val < 1 := (i 1).isLt
  obtain ⟨t, ht⟩ : ∃ t : Fin cfg0.N, t.val = (i 0).val / 512 := ⟨pointOf _ h0, rfl⟩
  refine ⟨t, flush0_6 _, ?_⟩
  show i ∈ ((View.whole main_v3_2).slice (win0_6.rect t)).set
  rw [View.set_slice_whole, Rect.mem_set_unit]
  intro a
  match a with
  | ⟨0, _⟩ =>
    show win0_6.index t 0 * 512 ≤ (i 0).val ∧ (i 0).val < win0_6.index t 0 * 512 + win0_6.xsize (grid0.coords t) 0
    rw [(idx6 t).1, (size6 t).1, ht]; omega
  | ⟨1, _⟩ =>
    show win0_6.index t 1 * 1 ≤ (i 1).val ∧ (i 1).val < win0_6.index t 1 * 1 + win0_6.xsize (grid0.coords t) 1
    rw [(idx6 t).2, (size6 t).2]; omega

/-! ## The run -/

/-- THE KERNEL'S RUN: its three results are the outputs, the codes and the scales, and its arguments are as they were. -/
theorem run : θ_run defs (onTc (τ := τ) (main (F := Ideal))) ⟨m, fun _ => 0, ρ⟩ fun r => ∀ c : Dev nD,
      r.2.mem ((c : Thread nD τ).loc main_v3_0) = outVal m c
      ∧ r.2.mem ((c : Thread nD τ).loc main_v3_1) = codeVal m c
      ∧ r.2.mem ((c : Thread nD τ).loc main_v3_2) = scaleVal m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨(h c).1.trans ((dats m 0 c).arrAt_eq_of_cover 4 (outVal m c) (fun t _ => flushed4_eq m c t) covered4),
      (h c).2.1.trans ((dats m 0 c).arrAt_eq_of_cover 5 (codeVal m c) (fun t _ => flushed5_eq m c t) covered5),
      (h c).2.2.1.trans ((dats m 0 c).arrAt_eq_of_cover 6 (scaleVal m c) (fun t _ => flushed6_eq m c t) covered6),
      (h c).2.2.2⟩)
    (run_blocks m ρ)

end Cert.KernelIdeal.Value

end
-- ==== Proof.ReferenceRow.lean ====
/-
  The reference's body over the extended reals: its exponents, scales, codes and outputs, row by row, as the functions of
  Proof/Row.lean.
-/
module

public import proofs.«01_k».proof.Proof.Row
public import proofs.«01_k».proof.Proof.Gen.ReferenceIdeal.Frame

@[expose] public section

noncomputable section

namespace Cert.ReferenceIdeal.Value

open Cert.ReferenceIdeal Cert.ReferenceIdeal.Gen Cert.Quant Idealize.ShloMosaic Idealize.ShloMosaic.ValueIdx
open scoped BigOperators

/-- Row `r` of the activations. -/
abbrev rowOf (x : Vec Ideal S24576x1152 .bf16) (r : Fin 24576) : Fin 1152 → EReal := fun k => x (ix2 r k)

/-- The widened activations are the activations. -/
theorem pay2_eq (x : Vec Ideal S24576x1152 .bf16) : k0_pay2 (F := Ideal) x = x := by
  unfold k0_pay2
  rw [shapeCast_self]
  rfl

/-- The column of largest magnitudes. -/
def amaxCol (x : Vec Ideal S24576x1152 .bf16) : FVec Ideal S24576x1 .f32 :=
  shapeCast S24576x1 (multiReduction .maximumf [1] S24576 (absf (k0_pay2 (F := Ideal) x)) 0xFF800000#32 reduces_S24576x1152_S24576 (.inl rfl) rfl)
    shapeCasts_S24576_S24576x1

/-- The largest magnitude of row `r`. -/
theorem amax_apply (x : Vec Ideal S24576x1152 .bf16) (r : Fin 24576) : amaxCol x (ix2 r 0) = amax (rowOf x r) := by
  refine (colMax_apply _ _ _ _ _ _ r).trans ?_
  rw [pay2_eq]
  rfl

/-- The candidate exponents, along the lanes. -/
def cands : FVec Ideal S24576x254 .f32 :=
  subf (sitofp (F := Ideal) .f32 (iota .tc S24576x254 32 [1] iota_S24576x254_d1_w32)) (broadcast S24576x254 (Scalar.ofBits .f32 0x42FA0000#32))

/-- A candidate exponent is its lane less 125. -/
theorem cands_apply (r : Fin 24576) (k : Fin 254) :
    cands (ix2 r k) = FloatOps.sitofp (F := Ideal) .f32 (BitVec.ofNat 32 k.val) - Ideal.ofBits .f32 0x42FA0000#32 := by
  unfold cands
  rw [subf_apply, sitofp_apply, lane_apply]
  rfl

/-- The column of least exponents whose power of two is above a column `t` of thresholds. -/
def aboveCol (t : FVec Ideal S24576x1 .f32) : FVec Ideal S24576x1 .f32 :=
  shapeCast S24576x1 (multiReduction (F := Ideal) (φ := .f32) .minimumf [1] S24576
      (select (cmpf (F := Ideal) .olt (broadcastTo S24576x254 t broadcasts_S24576x1_S24576x254) (exp2 cands)) cands
        (broadcast S24576x254 (Scalar.ofBits (F := Ideal) .f32 0x43000000#32)))
      0x7F800000#32 reduces_S24576x254_S24576 (.inl rfl) rfl) shapeCasts_S24576_S24576x1

/-- The least exponent above row `r`'s threshold. -/
theorem above_apply (t : FVec Ideal S24576x1 .f32) (r : Fin 24576) : aboveCol t (ix2 r 0) = above (t (ix2 r 0)) := by
  refine (colMin_apply _ _ _ _ _ _ r).trans ?_
  refine congrArg (fun f => (Finset.univ : Finset (Fin 254)).fold min (Ideal.ofBits .f32 0x7F800000#32) f) (funext fun k => ?_)
  show Scalar.select (Ideal.cmp .olt (broadcastTo S24576x254 t broadcasts_S24576x1_S24576x254 (ix2 r k)) (Ideal.exp2 (cands (ix2 r k))))
    (cands (ix2 r k)) (Ideal.ofBits .f32 0x43000000#32) = _
  rw [column_apply _ _ (by norm_num), cands_apply]

/-- The reference's exponents are a pointwise expression of the two columns. -/
theorem pay3_eq (x : Vec Ideal S24576x1152 .bf16) : k0_pay3 (F := Ideal) x
    = select (cmpf (F := Ideal) .oeq (amaxCol x) (broadcast S24576x1 (Scalar.ofBits .f32 0x00000000#32)))
        (broadcast S24576x1 (Scalar.ofBits .f32 0x00000000#32))
        (select (ori
            (cmpf (F := Ideal) .olt (mulf (amaxCol x) (broadcast S24576x1 (Scalar.ofBits .f32 0x3B124925#32))) (broadcast S24576x1 (Scalar.ofBits .f32 0x00800000#32)))
            (cmpf (F := Ideal) .oeq (mulf (amaxCol x) (broadcast S24576x1 (Scalar.ofBits .f32 0x3B124925#32))) (broadcast S24576x1 (Scalar.ofBits .f32 0x7F800000#32))))
          (broadcast S24576x1 (Scalar.ofBits .f32 0x00000000#32))
          (aboveCol (mulf (amaxCol x) (broadcast S24576x1 (Scalar.ofBits .f32 0x3B124925#32))))) := by
  unfold k0_pay3 aboveCol amaxCol cands
  rfl

/-- That expression at row `r`. -/
theorem exp_apply (a t b : FVec Ideal S24576x1 .f32) (r : Fin 24576) :
    select (cmpf (F := Ideal) .oeq a (broadcast S24576x1 (Scalar.ofBits .f32 0x00000000#32)))
        (broadcast S24576x1 (Scalar.ofBits .f32 0x00000000#32))
        (select (ori (cmpf (F := Ideal) .olt t (broadcast S24576x1 (Scalar.ofBits .f32 0x00800000#32)))
            (cmpf (F := Ideal) .oeq t (broadcast S24576x1 (Scalar.ofBits .f32 0x7F800000#32))))
          (broadcast S24576x1 (Scalar.ofBits .f32 0x00000000#32)) b) (ix2 r 0)
      = Scalar.select (Ideal.cmp .oeq (a (ix2 r 0)) (Ideal.ofBits .f32 0x00000000#32)) (Ideal.ofBits .f32 0x00000000#32)
          (Scalar.select (IntOp.ori (Ideal.cmp .olt (t (ix2 r 0)) (Ideal.ofBits .f32 0x00800000#32))
              (Ideal.cmp .oeq (t (ix2 r 0)) (Ideal.ofBits .f32 0x7F800000#32)))
            (Ideal.ofBits .f32 0x00000000#32) (b (ix2 r 0))) := rfl

/-- A column times a constant, at row `r`. -/
theorem times_apply (a : FVec Ideal S24576x1 .f32) (b : BitVec 32) (r : Fin 24576) :
    mulf a (broadcast S24576x1 (Scalar.ofBits .f32 b)) (ix2 r 0) = a (ix2 r 0) * Ideal.ofBits .f32 b := rfl

/-- The exponent of row `r`. -/
theorem pay3_apply (x : Vec Ideal S24576x1152 .bf16) (r : Fin 24576) : k0_pay3 (F := Ideal) x (ix2 r 0) = expReal (amax (rowOf x r)) := by
  rw [pay3_eq, exp_apply, above_apply, times_apply, amax_apply]
  simp only [expReal]

/-- A column's powers of two, at row `r`. -/
theorem exp2_apply (e : FVec Ideal S24576x1 .f32) (r : Fin 24576) : exp2 e (ix2 r 0) = Ideal.exp2 (e (ix2 r 0)) := rfl

/-- The scale of row `r`. -/
theorem scale_apply (x : Vec Ideal S24576x1152 .bf16) (r : Fin 24576) : k0_pay4 (F := Ideal) x (ix2 r 0) = rowScale (rowOf x r) := by
  unfold rowScale k0_pay4
  rw [exp2_apply, pay3_apply]

/-- The inverse scales as a pointwise expression of the exponents, at row `r`. -/
theorem inv_apply (e : FVec Ideal S24576x1 .f32) (r : Fin 24576) :
    exp2 (subf (broadcast S24576x1 (Scalar.ofBits .f32 0x00000000#32)) e) (ix2 r 0)
      = Ideal.exp2 (Ideal.ofBits .f32 0x00000000#32 - e (ix2 r 0)) := rfl

/-- The code of row `r` at column `k`. -/
theorem code_apply (x : Vec Ideal S24576x1152 .bf16) (r : Fin 24576) (k : Fin 1152) :
    k0_pay5 (F := Ideal) x (ix2 r k) = rowCode (rowOf x r) k := by
  unfold rowCode k0_pay5
  rw [truncf_apply, minimumf_apply, maximumf_apply, mulf_apply, column_apply _ _ (by norm_num), inv_apply, pay3_apply, pay2_eq]
  rfl

/-- THE OUTPUTS at `(r, j)`, of the scales, the codes, the weights, the weight scales and the residual. -/
theorem out_apply (s : FVec Ideal S24576x1 .f32) (q : FVec Ideal S24576x1152 .fp8e4m3) (w : Vec Ideal S3328x1152 .fp8e4m3)
    (ws : Vec Ideal S1x3328 .f32) (res : Vec Ideal S24576x3328 .bf16) (r : Fin 24576) (j : Fin 3328) :
    k0_pay1 (F := Ideal) s q w (constant S24576x3328 .f32 0x00000000#32) ws res (ix2 r j)
      = ((∑ k : Fin 1152, q (ix2 r k) * w (ix2 j k)) * s (ix2 r 0)) * ws (ix2 0 j) + res (ix2 r j) := by
  unfold k0_pay1
  rw [shapeCast_self, shapeCast_self]
  show (matmul dot_S24576x1152_S3328x1152_S24576x3328_1_1_0_0_n_n none q w (constant S24576x3328 .f32 0x00000000#32) (ix2 r j)
      * broadcastTo S24576x3328 s broadcasts_S24576x1_S24576x3328 (ix2 r j)) * broadcastTo S24576x3328 ws broadcasts_S1x3328_S24576x3328 (ix2 r j)
    + res (ix2 r j) = _
  rw [column_apply _ _ (by norm_num), row_apply _ _ (by norm_num)]
  have hm := Ideal.matmul_transposedRhs_apply (M := 24576) (K := 1152) (N := 3328) (φ₁ := .fp8e4m3) (φ₂ := .fp8e4m3) none q w
    (constant S24576x3328 .f32 0x00000000#32) r j
  rw [constant_apply, Ideal.ofBits_zero_f32, zero_add] at hm
  refine congrArg (fun e => e * s (ix2 r 0) * ws (ix2 0 j) + res (ix2 r j)) (Eq.trans ?_ hm)
  rfl

end Cert.ReferenceIdeal.Value

end
-- ==== Proof.ReferenceArrays.lean ====
/-
  The reference's three result arrays after its run, over the extended reals: the outputs, codes and scales of
  Proof/Row.lean at the argument arrays. The reference has no grid: its one point reads and writes whole arrays.
-/
module

public import proofs.«01_k».proof.Proof.ReferenceRow
public import proofs.«01_k».proof.Proof.Gen.ReferenceIdeal.Value
public import Idealize.ShloMosaic.Lib.StableHlo.Run
public import Idealize.ShloMosaic.Lib.Tactic
public import Idealize.ShloMosaic.Lib.Quiescent

@[expose] public section

noncomputable section

namespace Cert.ReferenceIdeal.Value

open Cert.ReferenceIdeal Cert.ReferenceIdeal.Gen Cert.Quant Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ) (ρ : Dev nD → PrngReg)

/-! ## The arrays the windows read -/

/-- The activations: the argument as rows. -/
abbrev actArr (c : Dev nD) : S24576x1152.Idx → EReal :=
  shapeCast S24576x1152 (m ((c : Thread nD τ).loc main_arg0)) shapeCasts_S3x8192x1152_S24576x1152
/-- The weights. -/
abbrev wArr (c : Dev nD) : S3328x1152.Idx → EReal := m ((c : Thread nD τ).loc main_arg1)
/-- The weight scales: the argument as one row. -/
abbrev wsArr (c : Dev nD) : S1x3328.Idx → EReal :=
  shapeCast S1x3328 (m ((c : Thread nD τ).loc main_arg2)) shapeCasts_S3328_S1x3328
/-- The residual: the argument as rows. -/
abbrev resArr (c : Dev nD) : S24576x3328.Idx → EReal :=
  shapeCast S24576x3328 (m ((c : Thread nD τ).loc main_arg3)) shapeCasts_S3x8192x3328_S24576x3328

theorem V_v0 (c : Dev nD) : V m c main_v0 = actArr m c := by
  show StableHlo.after hostOps0 _ (Proc.devRef .tc main_v0) = _
  unfold hostOps0
  after_results
  rfl
theorem V_v1 (c : Dev nD) : V m c main_v1 = wsArr m c := by
  show StableHlo.after hostOps0 _ (Proc.devRef .tc main_v1) = _
  unfold hostOps0
  after_results
  rfl
theorem V_v2 (c : Dev nD) : V m c main_v2 = resArr m c := by
  show StableHlo.after hostOps0 _ (Proc.devRef .tc main_v2) = _
  unfold hostOps0
  after_results
  rfl

/-! ## What the body leaves -/

section Body

variable (x0 : Vec Ideal S24576x1152 .bf16) (x1 : Vec Ideal S3328x1152 .fp8e4m3) (x2 : Vec Ideal S1x3328 .f32) (x3 : Vec Ideal S24576x3328 .bf16)

theorem hz : (![0, 0] : Fin 2 → Nat) = fun _ => 0 := funext fun a => by fin_cases a <;> rfl

/-- The scales as the body computes them. -/
theorem scales_apply (r : Fin 24576) : k0_pay6 x0 x1 x2 x3 (ix2 r 0) = rowScale (rowOf x0 r) := by
  unfold k0_pay6
  rw [View.ld_unit_zero hz]
  exact scale_apply x0 r

/-- The codes as the body computes them. -/
theorem codes_apply (r : Fin 24576) (k : Fin 1152) : k0_pay7 x0 x1 x2 x3 (ix2 r k) = rowCode (rowOf x0 r) k := by
  unfold k0_pay7
  rw [View.ld_unit_zero hz]
  exact code_apply x0 r k

/-- THE OUTPUTS the body leaves. -/
theorem out4_eq : out0_4 (F := Ideal) x0 x1 x2 x3 = outArr x0 x1 x2 x3 := by
  unfold out0_4
  rw [View.canon_unit_zero hz, View.ld_unit_zero hz, View.ld_unit_zero hz, View.ld_unit_zero hz]
  funext i
  obtain ⟨r, j, rfl⟩ : ∃ (r : Fin 24576) (j : Fin 3328), i = ix2 r j := ⟨i 0, i 1, eq_ix2 i⟩
  rw [out_apply, scales_apply]
  show _ = ((∑ k : Fin 1152, rowCode (rowOf x0 r) k * x1 (ix2 j k)) * rowScale (rowOf x0 r)) * x2 (ix2 0 j) + x3 (ix2 r j)
  refine congrArg (fun t => (t * rowScale (rowOf x0 r)) * x2 (ix2 0 j) + x3 (ix2 r j)) (Finset.sum_congr rfl fun k _ => ?_)
  rw [codes_apply]

/-- THE CODES the body leaves. -/
theorem out5_eq : out0_5 (F := Ideal) x0 x1 x2 x3 = codeArr x0 := by
  unfold out0_5
  rw [View.canon_unit_zero hz]
  funext i
  obtain ⟨r, k, rfl⟩ : ∃ (r : Fin 24576) (k : Fin 1152), i = ix2 r k := ⟨i 0, i 1, eq_ix2 i⟩
  exact codes_apply x0 x1 x2 x3 r k

/-- THE SCALES the body leaves. -/
theorem out6_eq : out0_6 (F := Ideal) x0 x1 x2 x3 = scaleArr x0 := by
  unfold out0_6
  rw [View.canon_unit_zero hz]
  funext i
  obtain ⟨r, u, rfl⟩ : ∃ (r : Fin 24576) (u : Fin 1), i = ix2 r u := ⟨i 0, i 1, eq_ix2 i⟩
  obtain rfl : u = 0 := Subsingleton.elim _ _
  exact scales_apply x0 x1 x2 x3 r

end Body

/-! ## The blocks: each the whole array -/

/-- Every window lies at the origin. -/
theorem idx0 : ∀ t : Fin grid0.N, win0_0.index t 0 = 0 ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel

theorem iblk0_eq (c : Dev nD) (t : Fin cfg0.N) : (iblk m c 0 t : Vec Ideal S24576x1152 .bf16) = actArr m c := by
  funext i
  unfold iblk
  rw [View.read_apply]
  show V m c main_v0 _ = _
  rw [V_v0]
  refine congrArg (actArr m c) (funext fun a => Fin.ext ?_)
  match a with
  | ⟨0, _⟩ => show win0_0.index t 0 * 24576 + 1 * (i 0).val = (i 0).val; rw [(idx0 t).1]; omega
  | ⟨1, _⟩ => show win0_0.index t 1 * 1152 + 1 * (i 1).val = (i 1).val; rw [(idx0 t).2]; omega

theorem iblk1_eq (c : Dev nD) (t : Fin cfg0.N) : (iblk m c 1 t : Vec Ideal S3328x1152 .fp8e4m3) = wArr m c := by
  funext i
  unfold iblk
  rw [View.read_apply]
  show V m c main_arg1 _ = _
  rw [V_main_arg1]
  refine congrArg (wArr m c) (funext fun a => Fin.ext ?_)
  match a with
  | ⟨0, _⟩ => show win0_1.index t 0 * 3328 + 1 * (i 0).val = (i 0).val; rw [(idx1 t).1]; omega
  | ⟨1, _⟩ => show win0_1.index t 1 * 1152 + 1 * (i 1).val = (i 1).val; rw [(idx1 t).2]; omega

theorem iblk2_eq (c : Dev nD) (t : Fin cfg0.N) : (iblk m c 2 t : Vec Ideal S1x3328 .f32) = wsArr m c := by
  funext i
  unfold iblk
  rw [View.read_apply]
  show V m c main_v1 _ = _
  rw [V_v1]
  refine congrArg (wsArr m c) (funext fun a => Fin.ext ?_)
  match a with
  | ⟨0, _⟩ => show win0_2.index t 0 * 1 + 1 * (i 0).val = (i 0).val; rw [(idx2 t).1]; omega
  | ⟨1, _⟩ => show win0_2.index t 1 * 3328 + 1 * (i 1).val = (i 1).val; rw [(idx2 t).2]; omega

theorem iblk3_eq (c : Dev nD) (t : Fin cfg0.N) : (iblk m c 3 t : Vec Ideal S24576x3328 .bf16) = resArr m c := by
  funext i
  unfold iblk
  rw [View.read_apply]
  show V m c main_v2 _ = _
  rw [V_v2]
  refine congrArg (resArr m c) (funext fun a => Fin.ext ?_)
  match a with
  | ⟨0, _⟩ => show win0_3.index t 0 * 24576 + 1 * (i 0).val = (i 0).val; rw [(idx3 t).1]; omega
  | ⟨1, _⟩ => show win0_3.index t 1 * 3328 + 1 * (i 1).val = (i 1).val; rw [(idx3 t).2]; omega

/-! ## What the point writes back -/

/-- The result arrays. -/
abbrev outVal (c : Dev nD) : Buf (Elt Ideal) ((c : Thread nD τ).loc main_v3_0) := outArr (actArr m c) (wArr m c) (wsArr m c) (resArr m c)
abbrev codeVal (c : Dev nD) : Buf (Elt Ideal) ((c : Thread nD τ).loc main_v3_1) := codeArr (actArr m c)
abbrev scaleVal (c : Dev nD) : Buf (Elt Ideal) ((c : Thread nD τ).loc main_v3_2) := scaleArr (actArr m c)

theorem flushed4_eq (c : Dev nD) (t : Fin cfg0.N) :
    (dats m 0 c).flushed 4 t = ((cfg0.win 4).blk t).view.read (Elt Ideal) (outVal m c) := by
  rw [flushed4, out4_eq, iblk0_eq, iblk1_eq, iblk2_eq, iblk3_eq]
  funext j
  rw [View.read_apply]
  have e : ((cfg0.win 4).blk t).view.emb j = (j : S24576x3328.Idx) := by
    funext a; apply Fin.ext
    match a with
    | ⟨0, _⟩ => show win0_4.index t 0 * 24576 + 1 * (j 0).val = (j 0).val; rw [(idx4 t).1]; omega
    | ⟨1, _⟩ => show win0_4.index t 1 * 3328 + 1 * (j 1).val = (j 1).val; rw [(idx4 t).2]; omega
  rw [e]
  rfl

theorem flushed5_eq (c : Dev nD) (t : Fin cfg0.N) :
    (dats m 0 c).flushed 5 t = ((cfg0.win 5).blk t).view.read (Elt Ideal) (codeVal m c) := by
  rw [flushed5, out5_eq, iblk0_eq]
  funext j
  rw [View.read_apply]
  have e : ((cfg0.win 5).blk t).view.emb j = (j : S24576x1152.Idx) := by
    funext a; apply Fin.ext
    match a with
    | ⟨0, _⟩ => show win0_5.index t 0 * 24576 + 1 * (j 0).val = (j 0).val; rw [(idx5 t).1]; omega
    | ⟨1, _⟩ => show win0_5.index t 1 * 1152 + 1 * (j 1).val = (j 1).val; rw [(idx5 t).2]; omega
  rw [e]
  rfl

theorem flushed6_eq (c : Dev nD) (t : Fin cfg0.N) :
    (dats m 0 c).flushed 6 t = ((cfg0.win 6).blk t).view.read (Elt Ideal) (scaleVal m c) := by
  rw [flushed6, out6_eq, iblk0_eq]
  funext j
  rw [View.read_apply]
  have e : ((cfg0.win 6).blk t).view.emb j = (j : S24576x1.Idx) := by
    funext a; apply Fin.ext
    match a with
    | ⟨0, _⟩ => show win0_6.index t 0 * 24576 + 1 * (j 0).val = (j 0).val; rw [(idx6 t).1]; omega
    | ⟨1, _⟩ => show win0_6.index t 1 * 1 + 1 * (j 1).val = (j 1).val; rw [(idx6 t).2]; omega
  rw [e]
  rfl

/-! ## The one block covers the array -/

theorem size4 : ∀ t : Fin grid0.N, win0_4.xsize (grid0.coords t) 0 = 24576 ∧ win0_4.xsize (grid0.coords t) 1 = 3328 := by decide +kernel
theorem size5 : ∀ t : Fin grid0.N, win0_5.xsize (grid0.coords t) 0 = 24576 ∧ win0_5.xsize (grid0.coords t) 1 = 1152 := by decide +kernel
theorem size6 : ∀ t : Fin grid0.N, win0_6.xsize (grid0.coords t) 0 = 24576 ∧ win0_6.xsize (grid0.coords t) 1 = 1 := by decide +kernel

theorem covered4 (i : S24576x3328.Idx) : ∃ t : Fin cfg0.N, (cfg0.win 4).flush t = true ∧ i ∈ ((cfg0.win 4).blk t).view.set := by
  have h0 : (i 0).val < 24576 := (i 0).isLt
  have h1 : (i 1).val < 3328 := (i 1).isLt
  obtain ⟨t⟩ : Nonempty (Fin cfg0.N) := ⟨t0_0⟩
  refine ⟨t, flush0_4 _, ?_⟩
  show i ∈ ((View.whole main_v3_0).slice (win0_4.rect t)).set
  rw [View.set_slice_whole, Rect.mem_set_unit]
  intro a
  match a with
  | ⟨0, _⟩ =>
    show win0_4.index t 0 * 24576 ≤ (i 0).val ∧ (i 0).val < win0_4.index t 0 * 24576 + win0_4.xsize (grid0.coords t) 0
    rw [(idx4 t).1, (size4 t).1]; omega
  | ⟨1, _⟩ =>
    show win0_4.index t 1 * 3328 ≤ (i 1).val ∧ (i 1).val < win0_4.index t 1 * 3328 + win0_4.xsize (grid0.coords t) 1
    rw [(idx4 t).2, (size4 t).2]; omega

theorem covered5 (i : S24576x1152.Idx) : ∃ t : Fin cfg0.N, (cfg0.win 5).flush t = true ∧ i ∈ ((cfg0.win 5).blk t).view.set := by
  have h0 : (i 0).val < 24576 := (i 0).isLt
  have h1 : (i 1).val < 1152 := (i 1).isLt
  obtain ⟨t⟩ : Nonempty (Fin cfg0.N) := ⟨t0_0⟩
  refine ⟨t, flush0_5 _, ?_⟩
  show i ∈ ((View.whole main_v3_1).slice (win0_5.rect t)).set
  rw [View.set_slice_whole, Rect.mem_set_unit]
  intro a
  match a with
  | ⟨0, _⟩ =>
    show win0_5.index t 0 * 24576 ≤ (i 0).val ∧ (i 0).val < win0_5.index t 0 * 24576 + win0_5.xsize (grid0.coords t) 0
    rw [(idx5 t).1, (size5 t).1]; omega
  | ⟨1, _⟩ =>
    show win0_5.index t 1 * 1152 ≤ (i 1).val ∧ (i 1).val < win0_5.index t 1 * 1152 + win0_5.xsize (grid0.coords t) 1
    rw [(idx5 t).2, (size5 t).2]; omega

theorem covered6 (i : S24576x1.Idx) : ∃ t : Fin cfg0.N, (cfg0.win 6).flush t = true ∧ i ∈ ((cfg0.win 6).blk t).view.set := by
  have h0 : (i 0).val < 24576 := (i 0).isLt
  have h1 : (i 1).val < 1 := (i 1).isLt
  obtain ⟨t⟩ : Nonempty (Fin cfg0.N) := ⟨t0_0⟩
  refine ⟨t, flush0_6 _, ?_⟩
  show i ∈ ((View.whole main_v3_2).slice (win0_6.rect t)).set
  rw [View.set_slice_whole, Rect.mem_set_unit]
  intro a
  match a with
  | ⟨0, _⟩ =>
    show win0_6.index t 0 * 24576 ≤ (i 0).val ∧ (i 0).val < win0_6.index t 0 * 24576 + win0_6.xsize (grid0.coords t) 0
    rw [(idx6 t).1, (size6 t).1]; omega
  | ⟨1, _⟩ =>
    show win0_6.index t 1 * 1 ≤ (i 1).val ∧ (i 1).val < win0_6.index t 1 * 1 + win0_6.xsize (grid0.coords t) 1
    rw [(idx6 t).2, (size6 t).2]; omega

/-! ## The run -/

/-- THE REFERENCE'S RUN: its three results are the outputs, the codes and the scales, and its arguments are as they were. -/
theorem run : θ_run defs (onTc (τ := τ) (main (F := Ideal))) ⟨m, fun _ => 0, ρ⟩ fun r => ∀ c : Dev nD,
      r.2.mem ((c : Thread nD τ).loc main_v3_0) = outVal m c
      ∧ r.2.mem ((c : Thread nD τ).loc main_v3_1) = codeVal m c
      ∧ r.2.mem ((c : Thread nD τ).loc main_v3_2) = scaleVal m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨(h c).1.trans ((dats m 0 c).arrAt_eq_of_cover 4 (outVal m c) (fun t _ => flushed4_eq m c t) covered4),
      (h c).2.1.trans ((dats m 0 c).arrAt_eq_of_cover 5 (codeVal m c) (fun t _ => flushed5_eq m c t) covered5),
      (h c).2.2.1.trans ((dats m 0 c).arrAt_eq_of_cover 6 (scaleVal m c) (fun t _ => flushed6_eq m c t) covered6),
      (h c).2.2.2⟩)
    (run_blocks m ρ)

end Cert.ReferenceIdeal.Value

end
-- ==== Proof.lean ====
/-
  The proof of `Cert.Claim`: the three frames, `preserves`, and `algebraic` for all three results. Both programs' runs are
  known as the same three functions of the argument arrays (Proof/KernelArrays.lean, Proof/ReferenceArrays.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelArrays
public import proofs.«01_k».proof.Proof.ReferenceArrays
public import Idealize.ShloMosaic.Adequacy
public import Idealize.ShloMosaic.Init

@[expose] public section

noncomputable section

namespace Cert.Proof

open Idealize.ShloMosaic Idealize.SL.Sem Cert.Kernel

/-- Over the extended reals the kernel and the reference leave the same outputs, codes and scales. -/
theorem algebraic : algebraic_KernelIdeal_ReferenceIdeal (hKernelIdeal := Cert.KernelIdeal.Gen.facts) (hReferenceIdeal := Cert.ReferenceIdeal.Gen.facts) := by
  intro m g m' g' _ h
  have h0 (c : Dev Cert.KernelIdeal.nD) : Cert.ReferenceIdeal.Value.actArr m' c = Cert.KernelIdeal.Value.actArr m c :=
    congrArg (fun x => shapeCast Cert.KernelIdeal.S24576x1152 x Cert.KernelIdeal.Gen.facts.shapeCasts_S3x8192x1152_S24576x1152) (h c).1
  have h1 (c : Dev Cert.KernelIdeal.nD) : Cert.ReferenceIdeal.Value.wArr m' c = Cert.KernelIdeal.Value.wArr m c := (h c).2.1
  have h2 (c : Dev Cert.KernelIdeal.nD) : Cert.ReferenceIdeal.Value.wsArr m' c = Cert.KernelIdeal.Value.wsArr m c :=
    congrArg (fun x => shapeCast Cert.KernelIdeal.S1x3328 x Cert.KernelIdeal.Gen.facts.shapeCasts_S3328_S1x3328) (h c).2.2.1
  have h3 (c : Dev Cert.KernelIdeal.nD) : Cert.ReferenceIdeal.Value.resArr m' c = Cert.KernelIdeal.Value.resArr m c :=
    congrArg (fun x => shapeCast Cert.KernelIdeal.S24576x3328 x Cert.KernelIdeal.Gen.facts.shapeCasts_S3x8192x3328_S24576x3328) (h c).2.2.2
  refine ⟨Cert.KernelIdeal.Value.outVal m, Cert.KernelIdeal.Value.codeVal m, Cert.KernelIdeal.Value.scaleVal m,
    Cert.KernelIdeal.Value.run m g, (θ_run _ _ _).mono (fun r hr c => ?_) (Cert.ReferenceIdeal.Value.run m' g')⟩
  obtain ⟨e0, e1, e2, e⟩ := hr c
  refine ⟨e0.trans ?_, e1.trans ?_, e2.trans ?_, e⟩
  · show Cert.Quant.outArr _ _ _ _ = Cert.Quant.outArr _ _ _ _
    rw [h0, h1, h2, h3]
  · show Cert.Quant.codeArr _ = Cert.Quant.codeArr _
    rw [h0]
  · show Cert.Quant.scaleArr _ = Cert.Quant.scaleArr _
    rw [h0]

theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
